-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 4096]⟩ ⟨3, ![4, 4096, 4096]⟩ (Layout.meshBlock [2, 4, 4] ![[2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 1024]⟩ ⟨2, ![4096, 4096]⟩ (Layout.meshBlock [2, 4, 4] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x4096 : Shape := ⟨3, ![1, 4096, 4096]⟩
abbrev S4096x1024 : Shape := ⟨2, ![4096, 1024]⟩
abbrev S2 : Shape := ⟨1, ![2]⟩
abbrev S3x2 : Shape := ⟨2, ![3, 2]⟩
abbrev S_ : Shape := ⟨0, ![]⟩
abbrev S1x1 : Shape := ⟨2, ![1, 1]⟩
abbrev S4096x512 : Shape := ⟨2, ![4096, 512]⟩
abbrev S1x4096x512 : Shape := ⟨3, ![1, 4096, 512]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S1x4096x4096, .f32⟩
  | .hbm, ⟨1, _⟩ => ⟨S4096x1024, .f32⟩
  | .local _ .vmem, ⟨0, _⟩ => ⟨S4096x1024, .f32⟩
  | .local _ .vmem, ⟨1, _⟩ => ⟨S4096x1024, .f32⟩
  | .local _ .vmem, ⟨2, _⟩ => ⟨S4096x1024, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 2 → Bool
  | ⟨0, _⟩ => true
  | ⟨1, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 2 16 bufScoped semScoped dmaSemScoped tileCredit tileCredit_eq_zero tileCredit_pos).withBarriers [(0, 1)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 1

abbrev nD : Nat := 32
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_16 : BitVec 32 := 16#32
  let v32 : BitVec 32 := Scalar.muli v2 c16_i32_16
  let v33 : BitVec 32 := Scalar.addi c0_i32_17 v32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_18 : BitVec 32 := 4#32
  let v34 : BitVec 32 := Scalar.muli v5 c4_i32_18
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_19 : BitVec 32 := 1#32
  let v36 : BitVec 32 := Scalar.muli v30 c1_i32_19
  let v37 : BitVec 32 := Scalar.addi v35 v36
  v37.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_24 : BitVec 32 := 1#32
  let v42 : BitVec 32 := Scalar.muli v19 c1_i32_24
  let v43 : BitVec 32 := Scalar.addi v41 v42
  v43.toNat
def k0_off1 (d0 : Dev nD) (c1_i32_26 : BitVec 32) (c0_i32_33 : BitVec 32) : Fin 3 → Nat :=
  let c0_i32_34 : BitVec 32 := 0#32
  let c0_i32_45 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v44 : BitVec 32 := Scalar.subi v8 c1_i32_26
  let c4_i32_27 : BitVec 32 := 4#32
  let c0_i32_28 : BitVec 32 := 0#32
  let v45 : BitVec 1 := Scalar.cmpi .eq c4_i32_27 c0_i32_28
  let c1_i32_29 : BitVec 32 := 1#32
  let v46 : BitVec 32 := Scalar.select v45 c1_i32_29 c4_i32_27
  let v47 : BitVec 32 := Scalar.remsi v44 v46
  let c0_i32_31 : BitVec 32 := 0#32
  let v49 : BitVec 1 := Scalar.cmpi .slt v47 c0_i32_31
  let c0_i32_32 : BitVec 32 := 0#32
  let v50 : BitVec 1 := Scalar.cmpi .slt v46 c0_i32_32
  let v51 : BitVec 1 := Scalar.xori v49 v50
  let c0_i32_30 : BitVec 32 := 0#32
  let v48 : BitVec 1 := Scalar.cmpi .ne v47 c0_i32_30
  let v52 : BitVec 1 := Scalar.andi v51 v48
  let v53 : BitVec 32 := Scalar.addi v47 v46
  let v54 : BitVec 32 := Scalar.select v52 v53 v47
  let c1024_i32 : BitVec 32 := 1024#32
  let v55 : BitVec 32 := Scalar.muli v54 c1024_i32
  let v56 : BitVec 32 := Scalar.addi v55 c0_i32_33
  ![0, 0, v56.toNat]
def k0_dev3 (d0 : Dev nD) : Nat :=
  let c0_i32_40 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_39 : BitVec 32 := 16#32
  let v57 : BitVec 32 := Scalar.muli v2 c16_i32_39
  let v58 : BitVec 32 := Scalar.addi c0_i32_40 v57
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_41 : BitVec 32 := 4#32
  let v59 : BitVec 32 := Scalar.muli v5 c4_i32_41
  let v60 : BitVec 32 := Scalar.addi v58 v59
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_42 : BitVec 32 := 1#32
  let v61 : BitVec 32 := Scalar.muli v19 c1_i32_42
  let v62 : BitVec 32 := Scalar.addi v60 v61
  v62.toNat
def k0_dev4 (d0 : Dev nD) : Nat :=
  let c0_i32_60 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_59 : BitVec 32 := 16#32
  let v83 : BitVec 32 := Scalar.muli v2 c16_i32_59
  let v84 : BitVec 32 := Scalar.addi c0_i32_60 v83
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_61 : BitVec 32 := 4#32
  let v85 : BitVec 32 := Scalar.muli v5 c4_i32_61
  let v86 : BitVec 32 := Scalar.addi v84 v85
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_62 : BitVec 32 := 1#32
  let v87 : BitVec 32 := Scalar.muli v19 c1_i32_62
  let v88 : BitVec 32 := Scalar.addi v86 v87
  v88.toNat
def k0_dev5 (d0 : Dev nD) : Nat :=
  let c0_i32_128 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_127 : BitVec 32 := 16#32
  let v157 : BitVec 32 := Scalar.muli v2 c16_i32_127
  let v158 : BitVec 32 := Scalar.addi c0_i32_128 v157
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_129 : BitVec 32 := 4#32
  let v159 : BitVec 32 := Scalar.muli v5 c4_i32_129
  let v160 : BitVec 32 := Scalar.addi v158 v159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_130 : BitVec 32 := 1#32
  let v161 : BitVec 32 := Scalar.muli v19 c1_i32_130
  let v162 : BitVec 32 := Scalar.addi v160 v161
  v162.toNat
def k0_dev6 (d0 : Dev nD) : Nat :=
  let c0_i32_183 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_182 : BitVec 32 := 16#32
  let v212 : BitVec 32 := Scalar.muli v2 c16_i32_182
  let v213 : BitVec 32 := Scalar.addi c0_i32_183 v212
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_184 : BitVec 32 := 4#32
  let v214 : BitVec 32 := Scalar.muli v5 c4_i32_184
  let v215 : BitVec 32 := Scalar.addi v213 v214
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_185 : BitVec 32 := 1#32
  let v216 : BitVec 32 := Scalar.muli v19 c1_i32_185
  let v217 : BitVec 32 := Scalar.addi v215 v216
  v217.toNat
def k0_dev7 (d0 : Dev nD) : Nat :=
  let c0_i32_244 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_243 : BitVec 32 := 16#32
  let v270 : BitVec 32 := Scalar.muli v2 c16_i32_243
  let v271 : BitVec 32 := Scalar.addi c0_i32_244 v270
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_245 : BitVec 32 := 4#32
  let v272 : BitVec 32 := Scalar.muli v5 c4_i32_245
  let v273 : BitVec 32 := Scalar.addi v271 v272
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_246 : BitVec 32 := 1#32
  let v274 : BitVec 32 := Scalar.muli v30 c1_i32_246
  let v275 : BitVec 32 := Scalar.addi v273 v274
  v275.toNat
def k0_dev8 (d0 : Dev nD) : Nat :=
  let c0_i32_254 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_253 : BitVec 32 := 16#32
  let v276 : BitVec 32 := Scalar.muli v2 c16_i32_253
  let v277 : BitVec 32 := Scalar.addi c0_i32_254 v276
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_255 : BitVec 32 := 4#32
  let v278 : BitVec 32 := Scalar.muli v5 c4_i32_255
  let v279 : BitVec 32 := Scalar.addi v277 v278
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_256 : BitVec 32 := 1#32
  let v280 : BitVec 32 := Scalar.muli v19 c1_i32_256
  let v281 : BitVec 32 := Scalar.addi v279 v280
  v281.toNat
def k0_off2 (d0 : Dev nD) (c0_i32_262 : BitVec 32) : Fin 3 → Nat :=
  let c0_i32_263 : BitVec 32 := 0#32
  let c0_i32_267 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_261 : BitVec 32 := 1024#32
  let v288 : BitVec 32 := Scalar.muli v8 c1024_i32_261
  let v289 : BitVec 32 := Scalar.addi v288 c0_i32_262
  ![0, 0, v289.toNat]
def k0_dev9 (d0 : Dev nD) : Nat :=
  let c0_i32_308 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_307 : BitVec 32 := 16#32
  let v323 : BitVec 32 := Scalar.muli v2 c16_i32_307
  let v324 : BitVec 32 := Scalar.addi c0_i32_308 v323
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_309 : BitVec 32 := 4#32
  let v325 : BitVec 32 := Scalar.muli v5 c4_i32_309
  let v326 : BitVec 32 := Scalar.addi v324 v325
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_310 : BitVec 32 := 1#32
  let v327 : BitVec 32 := Scalar.muli v30 c1_i32_310
  let v328 : BitVec 32 := Scalar.addi v326 v327
  v328.toNat
def k0_dev10 (d0 : Dev nD) : Nat :=
  let c0_i32_318 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_317 : BitVec 32 := 16#32
  let v329 : BitVec 32 := Scalar.muli v2 c16_i32_317
  let v330 : BitVec 32 := Scalar.addi c0_i32_318 v329
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_319 : BitVec 32 := 4#32
  let v331 : BitVec 32 := Scalar.muli v5 c4_i32_319
  let v332 : BitVec 32 := Scalar.addi v330 v331
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_320 : BitVec 32 := 1#32
  let v333 : BitVec 32 := Scalar.muli v19 c1_i32_320
  let v334 : BitVec 32 := Scalar.addi v332 v333
  v334.toNat
-- ==== ReferenceIdeal.lean ====
abbrev S4x4096x4096 : Shape := ⟨3, ![4, 4096, 4096]⟩
abbrev S_ : Shape := ⟨0, ![]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S_, .f32⟩
  | .hbm, ⟨2, _⟩ => ⟨S4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Stages.lean ====
/-
The kernel body cut into stages.

The body sends partial sums round a ring of four devices, column half by column half. Each stage below is one
half's share of one hop, written once for either half; the body is their sequence (`body_eq_stages`).
-/
module

public import proofs.«01_k».proof.Proof.Gen.KernelIdeal
public import proofs.«01_k».proof.Proof.Gen.KernelIdeal.Skeleton

@[expose] public section

noncomputable section

namespace Cert.RingProof

open Cert.KernelIdeal Cert.KernelIdeal.Gen
open Idealize.ShloMosaic
open Idealize.ShloMosaic.TcCoe
open Idealize.SL Idealize.SL.Sem

variable {F : FTy → Type} [FloatOps F]

/-! ## The memrefs and semaphores, by column half -/

set_option backward.proofsInPublic true in
theorem half_inb (h : Fin 2) : ∀ a, (![0, 512 * h.val] : Fin 2 → Nat) a + S4096x512.size a ≤ S4096x1024.size a := by
  revert h; decide

/-- The column half `h` of a whole 4096×1024 buffer. -/
abbrev half {sp : Space} (M : Memref sig .tc sp S4096x1024 .f32) (h : Fin 2) : Memref sig .tc sp S4096x512 .f32 :=
  M.slice (Rect.unit (s := S4096x1024) ![0, 512 * h.val] S4096x512.size (half_inb h)) (fun _ => rfl)

abbrev xM : Memref sig .tc .hbm S1x4096x4096 .f32 := Memref.whole main_arg0
abbrev oM : Memref sig .tc .hbm S4096x1024 .f32 := Memref.whole main_v1
abbrev r0M : Memref sig .tc .vmem S4096x1024 .f32 := Memref.whole cc0_scratch0
abbrev r1M : Memref sig .tc .vmem S4096x1024 .f32 := Memref.whole cc0_scratch1
abbrev tM : Memref sig .tc .vmem S4096x1024 .f32 := Memref.whole cc0_scratch2

/-- A 4096×512 block of the argument, at the given offsets. -/
abbrev xC (off : Fin 3 → Nat) (hin : ∀ a, off a + S1x4096x512.size a ≤ S1x4096x4096.size a) :
    Memref sig .tc .hbm S4096x512 .f32 :=
  (xM.slice (Rect.unit (s := S1x4096x4096) off S1x4096x512.size hin) (fun _ => rfl)).squeeze S4096x512
    squeezes_S1x4096x512_S4096x512

set_option backward.proofsInPublic true in
theorem pair_inb (h : Fin 2) : ∀ a, (![h.val] : Fin 1 → Nat) a + S1.size a ≤ S2.size a := by revert h; decide
set_option backward.proofsInPublic true in
theorem six_inb (j : Fin 3) (h : Fin 2) : ∀ a, (![j.val, h.val] : Fin 2 → Nat) a + S1x1.size a ≤ S3x2.size a := by
  revert j h; decide

/-- One of two DMA semaphores, -/
abbrev sem2 (A : DmaSems sig S2) (h : Fin 2) : DmaSems sig S_ :=
  (A.slice (Rect.unit (s := S2) ![h.val] S1.size (pair_inb h))).squeeze S_ squeezes_S1_S_
/-- one of the three hops' two. -/
abbrev sem6 (A : DmaSems sig S3x2) (j : Fin 3) (h : Fin 2) : DmaSems sig S_ :=
  (A.slice (Rect.unit (s := S3x2) ![j.val, h.val] S1x1.size (six_inb j h))).squeeze S_ squeezes_S1x1_S_

abbrev copyS (h : Fin 2) : DmaSems sig S_ := sem2 cc0_scratch3 h
abbrev outS (h : Fin 2) : DmaSems sig S_ := sem2 cc0_scratch4 h
abbrev sendS (j : Fin 3) (h : Fin 2) : DmaSems sig S_ := sem6 cc0_scratch5 j h
abbrev recvS (j : Fin 3) (h : Fin 2) : DmaSems sig S_ := sem6 cc0_scratch6 j h
abbrev creditS : Sem sig := (cc0_scratch7 : Sems sig S_).sem
abbrev barS : Sem sig := (SemArray.scalar (sig.barrier 0 rfl) : Sems sig S_).sem

/-! ## The stages -/

/-- Programs of a core, as the body is one. -/
abbrev Steps (F : FTy → Type) [FloatOps F] : Type 1 := Prog (TpuEff nD τ sig (Elt F) Λ₀ .tc) PUnit

/-- The handshake with both neighbours. -/
def entry (l r : Dev nD) : Steps F := do
  semSignalWord l barS 1#32
  semSignalWord r barS 1#32
  semWaitWord barS 2#32

/-- The first hop of half `h`: an argument block into the neighbour's `r0`. -/
def hop0 (r : Dev nD) (off : Fin 3 → Nat) (hin : ∀ a, off a + S1x4096x512.size a ≤ S1x4096x4096.size a) (h : Fin 2) : Steps F :=
  Prog.lift (.enqueueDma (xC off hin) (.remote (Dev.tc r) (half r0M h) (.dma (sendS 0 h).sem)) (.dma (recvS 0 h).sem)
    ((View.wordExact_bits rfl).reshape _ _) (View.wordExact_bits rfl) ⟨⟨rfl, Or.inl rfl⟩, trivial⟩)

/-- A later hop of half `h`: a partial sum from this device's scratch `A` into the neighbour's `B`. -/
def hop (r : Dev nD) (A B : Memref sig .tc .vmem S4096x1024 .f32) (j : Fin 3) (h : Fin 2) : Steps F :=
  Prog.lift (.enqueueDma (half A h) (.remote (Dev.tc r) (half B h) (.dma (sendS j h).sem)) (.dma (recvS j h).sem)
    (View.wordExact_bits rfl) (View.wordExact_bits rfl) ⟨⟨rfl, Or.inl rfl⟩, trivial⟩)

/-- Start fetching an argument block into half `h` of `t`. -/
def fetch (off : Fin 3 → Nat) (hin : ∀ a, off a + S1x4096x512.size a ≤ S1x4096x4096.size a) (h : Fin 2) : Steps F :=
  Prog.lift (.enqueueDma (xC off hin) (.here (half tM h)) (.dma (copyS h).sem)
    ((View.wordExact_bits rfl).reshape _ _) (View.wordExact_bits rfl) ⟨Or.inl rfl, trivial⟩)

/-- Wait for a DMA semaphore, by the amount of the memref `d`. -/
def await {sp sp' : Space} (s : DmaSems sig S_) (a : Memref sig .tc sp S4096x512 .f32) (d : Memref sig .tc sp' S4096x512 .f32)
    (ha : a.view.WordExact) (hd : d.view.WordExact) : Steps F :=
  Prog.lift (.waitDma2 s.sem a d ha hd)

/-- Add half `h` of `t` to half `h` of `A`. -/
def accum (A : Memref sig .tc .vmem S4096x1024 .f32) (h : Fin 2) : Steps F := do
  let v ← Prog.lift (.load (half A h) (Rect.unit (s := S4096x512) ![0, 0] S4096x512.size inb_S4096x512_S4096x512_0_0).toLoadRect (View.loadsAt_vmem h_S4096x512))
  let w ← Prog.lift (.load (half tM h) (Rect.unit (s := S4096x512) ![0, 0] S4096x512.size inb_S4096x512_S4096x512_0_0).toLoadRect (View.loadsAt_vmem h_S4096x512))
  let _ ← Prog.lift (.load (half A h) (Rect.unit (s := S4096x512) ![0, 0] S4096x512.size inb_S4096x512_S4096x512_0_0).toLoadRect (View.loadsAt_vmem h_S4096x512))
  Prog.lift (.store (half A h) (Rect.unit (s := S4096x512) ![0, 0] S4096x512.size inb_S4096x512_S4096x512_0_0) (k0_pay1 v w) Finset.univ (View.stores_vmem_bits_univ h_S4096x512 rfl) (.inl rfl))

/-- What arrived in half `h` of `A` by hop `j`, added to the block fetched from `off`. -/
def gather {sp : Space} (a : Memref sig .tc sp S4096x512 .f32) (ha : a.view.WordExact) (A : Memref sig .tc .vmem S4096x1024 .f32)
    (j : Fin 3) (h : Fin 2) (off : Fin 3 → Nat) (hin : ∀ a, off a + S1x4096x512.size a ≤ S1x4096x4096.size a) : Steps F := do
  await (recvS j h) a (half A h) ha (View.wordExact_bits rfl)
  await (copyS h) (xC off hin) (half tM h) ((View.wordExact_bits rfl).reshape _ _) (View.wordExact_bits rfl)
  accum A h

/-- Give the left neighbour back its target in half `h` once this device's second hop has left, and wait for the
    right neighbour's. -/
def handback (l : Dev nD) (h : Fin 2) : Steps F := do
  await (sendS 1 h) (half r1M h) (half r0M h) (View.wordExact_bits rfl) (View.wordExact_bits rfl)
  semSignalWord l creditS 1#32
  semWaitWord creditS 1#32

/-- Start writing half `h` of the result. -/
def emit (h : Fin 2) : Steps F :=
  Prog.lift (.enqueueDma (half r0M h) (.here (half oM h)) (.dma (outS h).sem)
    (View.wordExact_bits rfl) (View.wordExact_bits rfl) ⟨Or.inl rfl, trivial⟩)

/-- Wait for half `h` of the result and for the first and last hops' departures. -/
def finish (off : Fin 3 → Nat) (hin : ∀ a, off a + S1x4096x512.size a ≤ S1x4096x4096.size a) (h : Fin 2) : Steps F := do
  await (outS h) (half r0M h) (half oM h) (View.wordExact_bits rfl) (View.wordExact_bits rfl)
  await (sendS 0 h) (half r0M h) (xC off hin) (View.wordExact_bits rfl) ((View.wordExact_bits rfl).reshape _ _)
  await (sendS 2 h) (half r0M h) (half r1M h) (View.wordExact_bits rfl) (View.wordExact_bits rfl)

/-- The offsets of the block fetched for hop `j` (`j = 0` the block sent in the first hop). -/
abbrev off1 (c : Dev nD) (j : Fin 3) (h : Fin 2) : Fin 3 → Nat :=
  k0_off1 c (BitVec.ofNat 32 (1 + j.val)) (BitVec.ofNat 32 (512 * h.val))
abbrev off2 (c : Dev nD) (h : Fin 2) : Fin 3 → Nat := k0_off2 c (BitVec.ofNat 32 (512 * h.val))

set_option backward.proofsInPublic true in
theorem off0_inb (h : Fin 2) : ∀ a, (![0, 0, 512 * h.val] : Fin 3 → Nat) a + S1x4096x512.size a ≤ S1x4096x4096.size a := by
  revert h; decide

/-- First hop's arrival, added and sent on; the next block fetched. -/
def stage1 (r : Dev nD) (c : Dev nD) (h : Fin 2) : Steps F := do
  gather (xC ![0, 0, 512 * h.val] (off0_inb h)) ((View.wordExact_bits rfl).reshape _ _) r0M 0 h (off1 c 1 h) (k0_off1_inb c 1 h)
  hop r r0M r1M 1 h
  fetch (off1 c 2 h) (k0_off1_inb c 2 h) h

/-- Second hop's arrival, added, its target handed back, and sent on; the own block fetched. -/
def stage2 (l r : Dev nD) (c : Dev nD) (h : Fin 2) : Steps F := do
  gather (half r0M h) (View.wordExact_bits rfl) r1M 1 h (off1 c 2 h) (k0_off1_inb c 2 h)
  handback l h
  hop r r1M r0M 2 h
  fetch (off2 c h) (k0_off2_inb c h) h

/-- Last hop's arrival, added to the own block and written out. -/
def stage3 (c : Dev nD) (h : Fin 2) : Steps F := do
  gather (half r1M h) (View.wordExact_bits rfl) r0M 2 h (off2 c h) (k0_off2_inb c h)
  emit h

/-- The stages in order, at the devices the body computes. -/
def stages (c l1 r2 r3 r4 r5 r6 l7 r8 l9 r10 : Dev nD) : Steps F := do
  entry l1 r2
  hop0 r3 (off1 c 0 0) (k0_off1_inb c 0 0) 0
  hop0 r4 (off1 c 0 1) (k0_off1_inb c 0 1) 1
  fetch (off1 c 1 0) (k0_off1_inb c 1 0) 0
  fetch (off1 c 1 1) (k0_off1_inb c 1 1) 1
  stage1 r5 c 0
  stage1 r6 c 1
  stage2 l7 r8 c 0
  stage2 l9 r10 c 1
  stage3 c 0
  stage3 c 1
  finish (off1 c 0 0) (k0_off1_inb c 0 0) 0
  finish (off1 c 0 1) (k0_off1_inb c 0 1) 1

set_option maxRecDepth 65536 in
/-- The body reads its device and runs the stages. -/
theorem body_eq_stages :
    cc0_body (F := F) (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7
      = Prog.op .deviceId fun c => stages c ⟨k0_dev1 c, k0_dev1_lt c⟩ ⟨k0_dev2 c, k0_dev2_lt c⟩ ⟨k0_dev3 c, k0_dev3_lt c⟩
          ⟨k0_dev4 c, k0_dev4_lt c⟩ ⟨k0_dev5 c, k0_dev5_lt c⟩ ⟨k0_dev6 c, k0_dev6_lt c⟩ ⟨k0_dev7 c, k0_dev7_lt c⟩
          ⟨k0_dev8 c, k0_dev8_lt c⟩ ⟨k0_dev9 c, k0_dev9_lt c⟩ ⟨k0_dev10 c, k0_dev10_lt c⟩ := by
  rw [cc0_body_eq_skeleton]
  unfold cc0_body_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  rfl

end Cert.RingProof
-- ==== Proof.Protocol.lean ====
/-
The ring's protocol: who its neighbours are, what each semaphore's units hand over, in what order a device pays what it owes.

Device `c` sits at position `c % 4` of a ring of four. In hop `j` it sends, for each column half `h`, the partial sum
`sent j c h` to its right neighbour; the last one, `sent 3 c h`, is half `h` of its result. A device's cells are its
barrier and credit semaphores and, per hop and half, one for what it sent and one for what it received. The semaphores
of the local copies belong to their device alone and have no cell.
-/
module

public import proofs.«01_k».proof.Proof.Stages
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Transfers
public import Idealize.ShloMosaic.Lib.VecWindow
public import Idealize.ShloMosaic.Lib.Tactic

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

/-! ## The resource algebra -/

/-- The hand-back of a receive buffer is keyed by its device and half. -/
abbrev Key : Type := Dev nD × Fin 2
abbrev UB : Type := URounds (GSem nD τ sig) (Fin 2)
abbrev UK : Type := USlots Key × Counters
abbrev UX : Type := UB × UK
abbrev UU : Type := UR sig nD τ × UX

/-- The assertions of the proof. -/
abbrev MF (F : FTy → Type) : Type := MT nD τ sig (Fin 2) (Elt F) ℕ UU ℕ

local notation "𝕄" => MF F

abbrev EP : Emb (UR sig nD τ) (MF F) := embL
abbrev EX : Emb UX (MF F) := embR
abbrev ER : Emb UB (MF F) := (Emb.inl : Emb UB UX).trans EX
abbrev EK : Emb UK (MF F) := (Emb.inr : Emb UK UX).trans EX
abbrev ES : Emb (USlots Key) (MF F) := (Emb.inl : Emb (USlots Key) UK).trans EK
abbrev EC : UEmb Counters (MF F) := countersEmb

abbrev 𝒱₀ : Variants := Variants.none

variable (m : (ℓ : Loc nD τ sig) → Buf (Elt F) ℓ)

/-! ## The ring -/

set_option backward.proofsInPublic true in
/-- The right neighbour; -/
def nxt (c : Dev nD) : Dev nD := ⟨c.val / 4 * 4 + (c.val % 4 + 1) % 4, by have := c.isLt; unfold nD at *; omega⟩
set_option backward.proofsInPublic true in
/-- the left one. -/
def prv (c : Dev nD) : Dev nD := ⟨c.val / 4 * 4 + (c.val % 4 + 3) % 4, by have := c.isLt; unfold nD at *; omega⟩

theorem prv_nxt (c : Dev nD) : prv (nxt c) = c := by revert c; decide
theorem nxt_prv (c : Dev nD) : nxt (prv c) = c := by revert c; decide

def ring : Dev nD ≃ Dev nD := ⟨nxt, prv, prv_nxt, nxt_prv⟩

set_option backward.proofsInPublic true in
/-- The column block device `c` handles in hop `j`: the one `j + 1` places before its own, so its own for `j = 3`. -/
def blkOf (c : Dev nD) (j : Fin 4) : Fin 4 := ⟨(c.val % 4 + (3 - j.val)) % 4, Nat.mod_lt _ (by decide)⟩

/-- The offsets of half `h` of column block `k`. -/
abbrev offN (k : Fin 4) (h : Fin 2) : Fin 3 → Nat := ![0, 0, 1024 * k.val + 512 * h.val]

set_option backward.proofsInPublic true in
theorem offN_inb (k : Fin 4) (h : Fin 2) : ∀ a, offN k h a + S1x4096x512.size a ≤ S1x4096x4096.size a := by
  revert k h; decide

set_option maxRecDepth 8192 in
theorem off1_eq (c : Dev nD) (j : Fin 3) (h : Fin 2) : off1 c j h = offN (blkOf c j.castSucc) h := by
  revert c j h; decide +kernel

set_option maxRecDepth 8192 in
theorem off2_eq (c : Dev nD) (h : Fin 2) : off2 c h = offN (blkOf c 3) h := by
  revert c h; decide +kernel

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = nxt c := by revert c; decide +kernel
theorem dev5_eq (c : Dev nD) : (⟨k0_dev5 c, k0_dev5_lt c⟩ : Dev nD) = nxt c := by revert c; decide +kernel
theorem dev6_eq (c : Dev nD) : (⟨k0_dev6 c, k0_dev6_lt c⟩ : Dev nD) = nxt c := by revert c; decide +kernel
theorem dev7_eq (c : Dev nD) : (⟨k0_dev7 c, k0_dev7_lt c⟩ : Dev nD) = prv c := by revert c; decide +kernel
theorem dev8_eq (c : Dev nD) : (⟨k0_dev8 c, k0_dev8_lt c⟩ : Dev nD) = nxt c := by revert c; decide +kernel
theorem dev9_eq (c : Dev nD) : (⟨k0_dev9 c, k0_dev9_lt c⟩ : Dev nD) = prv c := by revert c; decide +kernel
theorem dev10_eq (c : Dev nD) : (⟨k0_dev10 c, k0_dev10_lt c⟩ : Dev nD) = nxt c := by revert c; decide +kernel

/-- Half `h` of column block `k` of the argument. -/
abbrev xB (k : Fin 4) (h : Fin 2) : Memref sig .tc .hbm S4096x512 .f32 := xC (offN k h) (offN_inb k h)

/-! ## The cells -/

/-- A device's cells. -/
inductive Cid where
  | bar | credit
  | snd (j : Fin 3) (h : Fin 2)
  | rcv (j : Fin 3) (h : Fin 2)
deriving DecidableEq

namespace Cid

/-- The cells, listed. -/
def all : List Cid :=
  [bar, credit, snd 0 0, snd 0 1, snd 1 0, snd 1 1, snd 2 0, snd 2 1, rcv 0 0, rcv 0 1, rcv 1 0, rcv 1 1, rcv 2 0, rcv 2 1]

instance : Fintype Cid := ⟨all.toFinset, fun k => by
  cases k with
  | bar => decide
  | credit => decide
  | snd j h => revert j h; decide
  | rcv j h => revert j h; decide⟩

/-- The semaphore of a cell. -/
def sem : Cid → SemLoc sig
  | bar => .reg barS
  | credit => .reg creditS
  | snd j h => .dma (sendS j h).sem
  | rcv j h => .dma (recvS j h).sem

theorem sem_inj : Function.Injective sem := by decide +kernel

open Classical in
/-- The cell a semaphore belongs to, if any. -/
def ofSem (s : SemLoc sig) : Option Cid := if h : ∃ k, sem k = s then some h.choose else none

theorem ofSem_sem (k : Cid) : ofSem (sem k) = some k := by
  have h : ∃ k', sem k' = sem k := ⟨k, rfl⟩
  unfold ofSem; rw [dif_pos h, sem_inj h.choose_spec]

theorem ofSem_none {s : SemLoc sig} (h : ∀ k, sem k ≠ s) : ofSem s = none := by
  unfold ofSem; exact dif_neg fun ⟨k, hk⟩ => h k hk

end Cid

/-- Cell `k` of device `c`. -/
abbrev cell (c : Dev nD) (k : Cid) : GSem nD τ sig := ((c : Thread nD τ), k.sem)

/-- The units of one half's transfer. -/
@[irreducible] def N : ℕ := (half r0M 0).view.dmaCredit
theorem N_pos : 0 < N := by unfold N; exact View.dmaCredit_pos _ (by decide)
theorem credit_r0 (h : Fin 2) : (half r0M h).view.dmaCredit = N := by unfold N; rfl
theorem credit_r1 (h : Fin 2) : (half r1M h).view.dmaCredit = N := by unfold N; rfl
theorem credit_t (h : Fin 2) : (half tM h).view.dmaCredit = N := by unfold N; rfl
theorem credit_o (h : Fin 2) : (half oM h).view.dmaCredit = N := by unfold N; rfl
theorem credit_x (off : Fin 3 → ℕ) (hin) : (xC off hin).view.dmaCredit = N := by unfold N; rfl

/-! ## Contents -/

/-- What device `c` holds in half `h` of column block `k` of its argument. -/
def blk (c : Dev nD) (k : Fin 4) (h : Fin 2) : FVec F S4096x512 .f32 :=
  (xB k h).view.read (Elt F) (m ((c : Thread nD τ).loc main_arg0))

/-- What device `c` sends in hop `j`: its block, added to what its left neighbour sent in the hop before. -/
def sent : ℕ → Dev nD → Fin 2 → FVec F S4096x512 .f32
  | 0, c, h => blk m c (blkOf c 0) h
  | j + 1, c, h => k0_pay1 (sent j (prv c) h) (blk m c (blkOf c (Fin.ofNat 4 (j + 1))) h)

/-- Elements of a half at any contents. -/
abbrev spot (c : Dev nD) {sp : Space} (M : Memref sig .tc sp S4096x1024 .f32) (h : Fin 2) : sProp 𝕄 :=
  slot ((half M h).view.loc (c : Thread nD τ)) (half M h).view.set

/-- A half holding `X`. -/
abbrev holds (c : Dev nD) {sp : Space} (M : Memref sig .tc sp S4096x1024 .f32) (h : Fin 2) (X : FVec F S4096x512 .f32) : sProp 𝕄 :=
  owns (c : Thread nD τ) (half M h) fullShare X

omit [FloatOps F] in
theorem holds_spot (c : Dev nD) {sp : Space} (M : Memref sig .tc sp S4096x1024 .f32) (h : Fin 2) (X : FVec F S4096x512 .f32) :
    (holds c M h X : sProp 𝕄) ⊢ spot c M h := by
  unfold holds spot owns slot
  iintro ⟨%f, -, H⟩
  iexists f; iexact H

/-- The argument's shares: one per half for the first hop, one per half for the fetches. -/
abbrev qs : Fin 2 → PosShare TreeShare := ![fullShare.left.left, fullShare.left.right]
abbrev qf : Fin 2 → PosShare TreeShare := ![fullShare.right.left, fullShare.right.right]

/-- The argument at a share; -/
def xAll (c : Dev nD) (q : PosShare TreeShare) : sProp 𝕄 :=
  ((c : Thread nD τ).loc main_arg0) ↦{q} (m ((c : Thread nD τ).loc main_arg0))
/-- half `h` of its block `k` at a share, -/
def xPart (c : Dev nD) (k : Fin 4) (h : Fin 2) (q : PosShare TreeShare) : sProp 𝕄 :=
  (xB k h).view.loc (c : Thread nD τ) ↦[(xB k h).view.set]{q} (m ((c : Thread nD τ).loc main_arg0))
/-- and the rest of it. -/
def xRest (c : Dev nD) (k : Fin 4) (h : Fin 2) (q : PosShare TreeShare) : sProp 𝕄 :=
  (xB k h).view.loc (c : Thread nD τ) ↦[Finset.univ \ (xB k h).view.set]{q} (m ((c : Thread nD τ).loc main_arg0))

omit [FloatOps F] in
theorem xAll_split (c : Dev nD) (k : Fin 4) (h : Fin 2) (q : PosShare TreeShare) :
    (xAll m c q : sProp 𝕄) ⊣⊢ iprop(xPart m c k h q ∗ xRest m c k h q) :=
  pointsTo_split_subset (Finset.subset_univ _)

instance xPart_storable (c : Dev nD) (k : Fin 4) (h : Fin 2) (q : PosShare TreeShare) :
    BI.Storable (upEmb : UEmb _ 𝕄) (xPart m c k h q) := by unfold xPart; infer_instance

/-! ## The schedule -/

/-- Where hop `j` lands. -/
abbrev dstM (j : Fin 3) : Memref sig .tc .vmem S4096x1024 .f32 := ![r0M, r1M, r0M] j

/-- What the units of a cell hand its device. The barrier: the right neighbour's landing buffers. A sent cell: what was
    sent, back. A received cell: what arrived. The credit: that the right neighbour's buffer may be written again. -/
def pay (c : Dev nD) : Cid → Fin 2 → sProp 𝕄
  | .bar, d => if d = 1 then iprop(spot (nxt c) r0M 0 ∗ spot (nxt c) r0M 1 ∗ spot (nxt c) r1M 0 ∗ spot (nxt c) r1M 1) else iprop(emp)
  | .credit, d => iprop(released ES (nxt c, (0 : Fin 2)) 1 ∗ released ES (nxt c, d) 1)
  | .snd 0 h, _ => xPart m c (blkOf c 0) h (qs h)
  | .snd 1 h, _ => spot c r0M h
  | .snd 2 h, _ => spot c r1M h
  | .rcv j h, _ => holds c (dstM j) h (sent m j.val (prv c) h)

instance pay_storable (c : Dev nD) (k : Cid) (d : Fin 2) : BI.Storable (upEmb : UEmb _ 𝕄) (pay m c k d) := by
  cases k with
  | bar => unfold pay; by_cases h : d = 1 <;> simp only [h, if_true, if_false] <;> infer_instance
  | credit => unfold pay; infer_instance
  | snd j h => fin_cases j <;> (unfold pay; infer_instance)
  | rcv j h => unfold pay; infer_instance

/-- The duties of a cell. -/
def dutiesOf : Cid → Finset (Fin 2)
  | .bar => Finset.univ
  | .credit => Finset.univ
  | .snd _ _ => {0}
  | .rcv _ _ => {0}

/-- The units of one duty. -/
def unitOf : Cid → ℕ
  | .bar => 1
  | .credit => 1
  | .snd _ _ => N
  | .rcv _ _ => N

theorem unitOf_pos (k : Cid) : 0 < unitOf k := by
  cases k with
  | bar => exact Nat.one_pos
  | credit => exact Nat.one_pos
  | snd => exact N_pos
  | rcv => exact N_pos

/-- One round for each cell. -/
def Rd : Rounds.Schedule (GSem nD τ sig) (Fin 2) 𝕄 where
  duties g r := if r = 0 ∧ g.1.2 = .tc then (Cid.ofSem g.2).elim ∅ dutiesOf else ∅
  unitless _ := False
  amount g _ _ := (Cid.ofSem g.2).elim 1 unitOf
  payload g _ d := (Cid.ofSem g.2).elim iprop(emp) fun k => pay m g.1.1 k d
  amount_pos g _ _ _ := by
    cases h : Cid.ofSem g.2 with
    | none => dsimp only [Option.elim]; exact Nat.one_pos
    | some k => dsimp only [Option.elim]; exact unitOf_pos k

instance Rd_payload_storable (g : GSem nD τ sig) (r : ℕ) (d : Fin 2) :
    BI.Storable (upEmb : UEmb _ 𝕄) ((Rd (F := F) m).payload g r d) := by
  show BI.Storable upEmb ((Cid.ofSem g.2).elim iprop(emp) fun k => pay m g.1.1 k d)
  cases Cid.ofSem g.2 <;> (dsimp only [Option.elim]; infer_instance)

section Sched
variable (c : Dev nD) (k : Cid)

theorem duties_cell : (Rd (F := F) m).duties (cell c k) 0 = dutiesOf k := by
  dsimp only [Rd]; rw [if_pos ⟨rfl, rfl⟩, Cid.ofSem_sem]; rfl
theorem duties_later (g : GSem nD τ sig) : ∀ r, 1 ≤ r → (Rd (F := F) m).duties g r = ∅ :=
  fun r hr => by dsimp only [Rd]; exact if_neg fun h => by omega
theorem amount_cell (d : Fin 2) : (Rd (F := F) m).amount (cell c k) 0 d = unitOf k := by
  dsimp only [Rd]; rw [Cid.ofSem_sem]; rfl
theorem payload_cell (d : Fin 2) : (Rd (F := F) m).payload (cell c k) 0 d = pay m c k d := by
  dsimp only [Rd]; rw [Cid.ofSem_sem]; rfl

theorem expect_cell : (Rd (F := F) m).expect (cell c k) 0 = (dutiesOf k).card * unitOf k := by
  unfold Schedule.expect Schedule.amountOf
  rw [duties_cell, Finset.sum_congr rfl fun d _ => amount_cell m c k d, Finset.sum_const, smul_eq_mul]

/-- The rest of a cell's round, no duty taken: the payloads of all its duties. -/
theorem rest_cell : bigSep ((Rd (F := F) m).duties (cell c k) 0 \ ∅) (fun d => (Rd (F := F) m).payload (cell c k) 0 d)
    = bigSep (dutiesOf k) (fun d => pay m c k d) := by
  rw [Finset.sdiff_empty, duties_cell]
  exact bigSep_congr fun d _ => payload_cell m c k d

end Sched

/-! ## What each core owes at launch; the levels -/

/-- The `i`-th of the ten payments device `c` makes. -/
def due (c : Dev nD) : ℕ → CellTallies nD τ sig (Fin 2)
  | 0 => tallyAt (cell (prv c) .bar) 0 1
  | 1 => tallyAt (cell (nxt c) .bar) 0 1
  | 2 => tallyAt (cell (nxt c) (.rcv 0 0)) 0 N
  | 3 => tallyAt (cell (nxt c) (.rcv 0 1)) 0 N
  | 4 => tallyAt (cell (nxt c) (.rcv 1 0)) 0 N
  | 5 => tallyAt (cell (nxt c) (.rcv 1 1)) 0 N
  | 6 => tallyAt (cell (prv c) .credit) 0 1
  | 7 => tallyAt (cell (nxt c) (.rcv 2 0)) 0 N
  | 8 => tallyAt (cell (prv c) .credit) 1 1
  | 9 => tallyAt (cell (nxt c) (.rcv 2 1)) 0 N
  | _ => 0

/-- What it owes when `k` of them are still to be made. -/
def owing (c : Dev nD) : ℕ → CellTallies nD τ sig (Fin 2)
  | 0 => 0
  | k + 1 => owing c k + due c (9 - k)

def L (g : GSem nD τ sig) : Finset (Fin 2) := if g.1.2 = .tc then Finset.univ else ∅

/-- The level of a cell at an index: the number of the payment that goes there; local copies and sent cells below. -/
def rank : Cid → Fin 2 → ℕ
  | .bar, _ => 1
  | .credit, i => 6 + 2 * i.val
  | .snd _ _, _ => 0
  | .rcv j h, _ => ![![2, 3], ![4, 5], ![7, 9]] j h

def lv (g : GSem nD τ sig) (i : Fin 2) : ℕ := (Cid.ofSem g.2).elim 0 fun k => rank k i

theorem L_of_ne (g : GSem nD τ sig) (h : g.1.2 ≠ .tc) : L g = ∅ := if_neg h
theorem L_tc (c : Dev nD) (sm : SemLoc sig) : L ((c : Thread nD τ), sm) = Finset.univ := if_pos rfl
theorem lv_cell (c : Dev nD) (k : Cid) (i : Fin 2) : lv (cell c k) i = rank k i := by unfold lv; rw [Cid.ofSem_sem]; rfl

theorem tally_pos {g g' : GSem nD τ sig} {i i' : Fin 2} {n : ℕ} (h : 0 < tallyAt g i n g' i') : g' = g ∧ i' = i := by
  rw [tallyAt_apply] at h
  by_contra hn
  rw [if_neg hn] at h
  exact Nat.lt_irrefl 0 h

/-- What payment `i` goes to is a cell of some core, at level `i` (the first one at 1). -/
theorem due_pos {c : Dev nD} {i : ℕ} {g : GSem nD τ sig} {u : Fin 2} (h : 0 < due c i g u) : g.1.2 = .tc ∧ i ≤ lv g u ∧ 1 ≤ lv g u := by
  match i, h with
  | 0, h | 1, h | 2, h | 3, h | 4, h | 5, h | 6, h | 7, h | 8, h | 9, h =>
    obtain ⟨rfl, rfl⟩ := tally_pos h
    rw [lv_cell]; exact ⟨rfl, by decide, by decide⟩
  | _ + 10, h => exact absurd h (Nat.lt_irrefl 0)

theorem owing_pos {c : Dev nD} {k : ℕ} {g : GSem nD τ sig} {u : Fin 2} (h : 0 < owing c k g u) :
    g.1.2 = .tc ∧ 10 - k ≤ lv g u ∧ 1 ≤ lv g u := by
  induction k with
  | zero => exact absurd h (Nat.lt_irrefl 0)
  | succ k ih =>
    unfold owing at h
    rw [Pi.add_apply, Finsupp.add_apply] at h
    rcases Nat.eq_zero_or_pos (owing c k g u) with h0 | h0
    · have := due_pos (i := 9 - k) (by omega : 0 < due c (9 - k) g u)
      exact ⟨this.1, by omega, this.2.2⟩
    · have := ih h0
      exact ⟨this.1, by omega, this.2.2⟩

omit [FloatOps F] in
/-- A device with `k` payments to make may wait on any semaphore at a level below theirs. -/
theorem mayWait (c : Dev nD) (sm : SemLoc sig) (i : Fin 2) (k : ℕ)
    (h : lv ((c : Thread nD τ), sm) i = 0 ∨ lv ((c : Thread nD τ), sm) i < 10 - k ∨ k = 0) :
    (levAts L lv : sProp 𝕄) ⊢ MayWait (c : Thread nD τ) sm i (owing c k) := by
  rcases k with _ | k
  · unfold owing; rw [MayWait_zero]; iintro -; iempintro
  refine MayOwe.of_cut (L := L) (lev := lv) (lv ((c : Thread nD τ), sm) i)
    (fun p hp => by rw [Finset.mem_singleton.mp hp, L_tc]; exact Finset.mem_univ _)
    (fun g u hg => by unfold L; rw [if_pos (owing_pos hg).1]; exact Finset.mem_univ _)
    (fun p hp => by rw [Finset.mem_singleton.mp hp])
    (fun g u hg => by have := owing_pos hg; omega)

end Cert.RingProof
-- ==== Proof.Rules.lean ====
/-
A rule for each step of the stages: what a device hands in and what it gets, at the protocol's cells.
-/
module

public import proofs.«01_k».proof.Proof.Protocol

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MF F

variable (m : (ℓ : Loc nD τ sig) → Buf (Elt F) ℓ)

/-! ## What the devices share -/

/-- The invariants of all cells and of all hand-backs, the marks of the cells' first rounds, and the levels. -/
def shared (K : Dev nD × Cid → ℕ) (J : Key → ℕ) : sProp 𝕄 :=
  iprop((bigSep Finset.univ fun p : Dev nD × Cid => cellInv ER (Rd m) (K p) (cell p.1 p.2))
    ∗ (bigSep Finset.univ fun p : Dev nD × Cid => reached ER (cell p.1 p.2) 0)
    ∗ (bigSep Finset.univ fun k : Key => slotInv ES (J k) k (spot k.1 r0M k.2)) ∗ levAts L lv)

instance shared_persistent (K : Dev nD × Cid → ℕ) (J : Key → ℕ) : BI.Persistent (shared m K J) := by unfold shared; infer_instance

variable (K : Dev nD × Cid → ℕ) (J : Key → ℕ)

theorem shared_inv (c : Dev nD) (k : Cid) : shared m K J ⊢ cellInv ER (Rd m) (K (c, k)) (cell c k) := by
  unfold shared
  iintro ⟨H, -⟩
  iapply (show (bigSep Finset.univ fun p : Dev nD × Cid => (cellInv ER (Rd m) (K p) (cell p.1 p.2) : sProp 𝕄)) ⊢ cellInv ER (Rd m) (K (c, k)) (cell c k)
    from bigSep_elim (Finset.mem_univ (c, k))) $$ H

theorem shared_reached (c : Dev nD) (k : Cid) : shared m K J ⊢ reached ER (cell c k) 0 := by
  unfold shared
  iintro ⟨-, H, -⟩
  iapply (show (bigSep Finset.univ fun p : Dev nD × Cid => (reached ER (cell p.1 p.2) 0 : sProp 𝕄)) ⊢ reached ER (cell c k) 0
    from bigSep_elim (Finset.mem_univ (c, k))) $$ H

theorem shared_slot (c : Dev nD) (h : Fin 2) : shared m K J ⊢ slotInv ES (J (c, h)) (c, h) (spot c r0M h) := by
  unfold shared
  iintro ⟨-, -, H, -⟩
  iapply (show (bigSep Finset.univ fun k : Key => (slotInv ES (J k) k (spot k.1 r0M k.2) : sProp 𝕄)) ⊢ slotInv ES (J (c, h)) (c, h) (spot c r0M h)
    from bigSep_elim (Finset.mem_univ (c, h))) $$ H

theorem shared_wait (c : Dev nD) (sm : SemLoc sig) (i : Fin 2) (q : ℕ)
    (h : lv ((c : Thread nD τ), sm) i = 0 ∨ lv ((c : Thread nD τ), sm) i < 10 - q ∨ q = 0) :
    shared m K J ⊢ MayWait (c : Thread nD τ) sm i (owing c q) := by
  refine BIBase.Entails.trans ?_ (mayWait c sm i q h)
  unfold shared
  iintro ⟨-, -, -, H⟩
  iexact H

/-! ## Short names -/

/-- Device `c` runs `p`, ending in `Q`. -/
abbrev run (c : Dev nD) (p : Steps F) (Q : PUnit → sProp 𝕄) : sProp 𝕄 :=
  wp frame (wpE (defs₀ (F := F)) 𝒱₀ (c : Thread nD τ) none) Set.univ p Q

/-- Device `c` still has `k` of its payments to make. -/
abbrev owed (c : Dev nD) (k : ℕ) : sProp 𝕄 := iprop(∃ W, owes (c : Thread nD τ) (owing c k) W)
/-- Device `c`'s cell `k` before its only round; -/
abbrev before (c : Dev nD) (k : Cid) : sProp 𝕄 := atPos ER (cell c k) 0 ∅ 0
/-- and after it. -/
abbrev after (c : Dev nD) (k : Cid) : sProp 𝕄 := atPos ER (cell c k) (0 + 1) ∅ 0
/-- The token of duty `d` of cell `k` of device `c`. -/
abbrev tok (c : Dev nD) (k : Cid) (d : Fin 2) : sProp 𝕄 := dutyTok ER (cell c k) 0 d
/-- Credit on a cell. -/
abbrev crd (c : Dev nD) (k : Cid) (i : Fin 2) (n : ℕ) : sProp 𝕄 := cred (tallyAt (cell c k) i n)
/-- A local copy in flight, on semaphore `s`. -/
abbrev flying (c : Dev nD) (s : DmaSems sig S_) (D : sProp 𝕄) : sProp 𝕄 := Flight EC (c : Thread nD τ) (.dma s.sem) 0 N D
/-- A local copy's semaphore at rest. -/
abbrev rest (c : Dev nD) (s : DmaSems sig S_) : sProp 𝕄 := semVal ((c : Thread nD τ), .dma s.sem) 0

/-- A half has elements. -/
theorem half_nonempty {sp : Space} (M : Memref sig .tc sp S4096x1024 .f32) (h : Fin 2) : (half M h).view.set.Nonempty :=
  ⟨_, View.emb_mem_set _ (fun a => ⟨0, by revert a; decide⟩)⟩

/-! ## Signals and waits -/

/-- Pay duty `d` of a counting cell: its token and payload go in, the payment is no longer owed. -/
theorem signal_step (c n : Dev nD) (k : Cid) (s : Sem sig) (hs : k.sem = .reg s) (d : Fin 2) (hd : d ∈ dutiesOf k) (hu : unitOf k = 1)
    (i : Fin 2) (q : ℕ) (hq : due c (9 - q) = tallyAt (cell n k) i 1) (Q : PUnit → sProp 𝕄) :
    iprop(shared m K J ∗ owed c (q + 1) ∗ tok n k d ∗ pay m n k d)
      ⊢ iprop((owed c q -∗ Q ⟨⟩) -∗ run c (semSignalWord n s 1#32) Q) := by
  have hc : cell n k = ((n : Thread nD τ), .reg s) := by unfold cell; rw [hs]
  iintro ⟨#HS, ⟨%W, HO⟩, Ht, Hp⟩ Hk
  ihave HI := (shared_inv m K J n k) $$ HS
  ihave HR := (shared_reached m K J n k) $$ HS
  simp only [semSignalWord]
  iapply (Rounds.wp_signal 𝒱₀ ER (Rd m) (c : Thread nD τ) none (dst := (n : Thread nD τ)) (κ := K (n, k)) (d := d) (sem := s)
      (by rw [← hc, duties_cell]; exact hd) (by rw [← hc, amount_cell, hu]; decide) i (O₀ := owing c (q + 1)) (owing c q)
      (by rw [← hc]; show owing c q + due c (9 - q) = _; rw [hq]; rfl)) $$ [HO Ht Hp]
  · rw [← hc, payload_cell]
    isplitr; · iexact HI
    isplitl [HO]; · iexact HO
    isplitl [Ht]; · iexact Ht
    isplitl [Hp]; · iexact Hp
    iexact HR
  iintro HO
  rw [wp_ret]; imodintro
  iapply Hk
  iexists W; iexact HO

/-- Wait for a cell whose only duty is a transfer's: its payload comes out. -/
theorem await_step (c : Dev nD) (k : Cid) (s : DmaSems sig S_) (hs : k.sem = .dma s.sem) (hd : dutiesOf k = {0}) (hu : unitOf k = N)
    {sp sp' : Space} (a : Memref sig .tc sp S4096x512 .f32) (d : Memref sig .tc sp' S4096x512 .f32) (ha : a.view.WordExact)
    (hd' : d.view.WordExact) (hN : d.view.dmaCredit = N) (q : ℕ) (hq : rank k 0 = 0 ∨ rank k 0 < 10 - q ∨ q = 0) (Q : PUnit → sProp 𝕄) :
    iprop(shared m K J ∗ owed c q ∗ before c k ∗ crd c k 0 N)
      ⊢ iprop(((owed c q ∗ after c k ∗ pay m c k 0) -∗ Q ⟨⟩) -∗ run c (await s a d ha hd') Q) := by
  have hc : cell c k = ((c : Thread nD τ), .dma s.sem) := by unfold cell; rw [hs]
  iintro ⟨#HS, ⟨%W, HO⟩, Hat, Hc⟩ Hk
  ihave HI := (shared_inv m K J c k) $$ HS
  unfold await Prog.lift
  iapply (Rounds.wp_wait_rest_token 𝒱₀ ER (Rd m) (c : Thread nD τ) none (κ := K (c, k))
      (wpE_waitDma2_eq 𝒱₀ (c : Thread nD τ) none Set.univ) (Set.mem_univ _) 0 (O := owing c q) (W := W) (R := 0) (m := 0) (T := ∅)
      (by rw [← hc, expect_cell, hd, hu, hN]; simp)) $$ [HO Hat Hc]
  · rw [← hc, hN]
    isplitr; · iexact HI
    isplitl [Hc]; · iexact Hc
    isplitl [HO]; · iexact HO
    isplitr
    · rw [← hs]
      iapply (shared_wait m K J c k.sem 0 q (by rw [lv_cell]; exact hq)) $$ HS
    iexact Hat
  rw [← hc, rest_cell, hd, bigSep_singleton]
  iintro ⟨HO, Hat, -, Hp⟩
  rw [wp_ret]; imodintro
  iapply Hk
  isplitl [HO]; · iexists _; iexact HO
  isplitl [Hat]; · iexact Hat
  iexact Hp

/-- Wait for a local copy: what it was to bring comes out, its semaphore at rest. -/
theorem await_local (c : Dev nD) (s : DmaSems sig S_) (hs : ∀ k : Cid, k.sem ≠ .dma s.sem)
    {sp sp' : Space} (a : Memref sig .tc sp S4096x512 .f32) (d : Memref sig .tc sp' S4096x512 .f32) (ha : a.view.WordExact)
    (hd' : d.view.WordExact) (hN : d.view.dmaCredit = N) (q : ℕ) (D : sProp 𝕄) (Q : PUnit → sProp 𝕄) :
    iprop(shared m K J ∗ owed c q ∗ flying c s D)
      ⊢ iprop(((owed c q ∗ rest c s ∗ D) -∗ Q ⟨⟩) -∗ run c (await s a d ha hd') Q) := by
  iintro ⟨#HS, ⟨%W, HO⟩, HF⟩ Hk
  unfold await Prog.lift
  iapply (wp_waitLocalO EC 𝒱₀ (c : Thread nD τ) none 0 hN (O := owing c q) (W := W) (D := D)) $$ [HO HF]
  · isplitl [HF]; · iexact HF
    isplitl [HO]; · iexact HO
    iapply (shared_wait m K J c (.dma s.sem) 0 q (.inl (by unfold lv; rw [Cid.ofSem_none hs]; rfl))) $$ HS
  iintro ⟨HD, Hv, HO⟩
  rw [wp_ret]; imodintro
  iapply Hk
  isplitl [HO]; · iexists _; iexact HO
  isplitl [Hv]; · iexact Hv
  iexact HD

/-! ## Transfers -/

/-- Send what `src` holds into half `h` of the right neighbour's landing buffer of hop `j`: the source and the target go in,
    the credit to wait for the departure comes out. -/
theorem send_step (c : Dev nD) (j : Fin 3) (h : Fin 2) (q : ℕ) (hq : due c (9 - q) = tallyAt (cell (nxt c) (.rcv j h)) 0 N)
    {sp : Space} (src : Memref sig .tc sp S4096x512 .f32) (hsrc : src.view.WordExact) (hdst : (half (dstM j) h).view.WordExact)
    (hsc : (half (dstM j) h).view.ref.isScScratch = false) (hN : (half (dstM j) h).view.dmaCredit = N)
    (hsem : DmaTarget.Typed sp (.dma (recvS j h).sem) (.remote (Dev.tc (nxt c) : Thread nD τ) (half (dstM j) h) (.dma (sendS j h).sem) hsc))
    (p : PosShare TreeShare) (fs : Buf (Elt F) (src.view.loc (c : Thread nD τ))) (hfs : src.view.read (Elt F) fs = sent m j.val c h)
    (hp : (src.view.loc (c : Thread nD τ) ↦[src.view.set]{p} fs : sProp 𝕄) ⊢ pay m c (.snd j h) 0) (Q : PUnit → sProp 𝕄) :
    iprop(shared m K J ∗ owed c (q + 1) ∗ (src.view.loc (c : Thread nD τ) ↦[src.view.set]{p} fs) ∗ spot (nxt c) (dstM j) h
        ∗ tok c (.snd j h) 0 ∗ tok (nxt c) (.rcv j h) 0)
      ⊢ iprop(((owed c q ∗ crd c (.snd j h) 0 N) -∗ Q ⟨⟩) -∗ run c (Prog.lift (.enqueueDma src
          (.remote (Dev.tc (nxt c) : Thread nD τ) (half (dstM j) h) (.dma (sendS j h).sem) hsc) (.dma (recvS j h).sem) hsrc hdst hsem)) Q) := by
  unfold spot slot
  iintro ⟨#HS, ⟨%W, HO⟩, Hs, ⟨%fd, Hd⟩, Ht, Ht'⟩ Hk
  ihave HI := (shared_inv m K J c (.snd j h)) $$ HS
  ihave HR := (shared_reached m K J c (.snd j h)) $$ HS
  ihave HI' := (shared_inv m K J (nxt c) (.rcv j h)) $$ HS
  ihave HR' := (shared_reached m K J (nxt c) (.rcv j h)) $$ HS
  unfold Prog.lift
  iapply (Rounds.wp_send_pointsTo 𝒱₀ ER (Rd m) (c : Thread nD τ) none (c' := (nxt c : Thread nD τ)) (κ₁ := K (c, .snd j h)) (κ₂ := K (nxt c, .rcv j h))
      (r₁ := 0) (r₂ := 0) (d₁ := 0) (d₂ := 0) (fd := fd) (fs := fs) (q := p)
      (by show _ ∈ (Rd m).duties (cell c (.snd j h)) 0; rw [duties_cell]; exact Finset.mem_singleton_self _)
      (by show _ ∈ (Rd m).duties (cell (nxt c) (.rcv j h)) 0; rw [duties_cell]; exact Finset.mem_singleton_self _)
      0 0 N ((View.amount_dma _ _).trans hN) (amount_cell m c (.snd j h) 0) (amount_cell m (nxt c) (.rcv j h) 0)
      (O₀ := owing c (q + 1)) (owing c q) (congrArg (owing c q + ·) hq) (W := W)
      (hp.trans (Entails.of_eq (payload_cell m c (.snd j h) 0).symm))
      (by
        refine BIBase.Entails.trans ?_ (Entails.of_eq (payload_cell m (nxt c) (.rcv j h) 0).symm)
        refine (owns_intro (nxt c : Thread nD τ) (half (dstM j) h) fullShare _).trans (Entails.of_eq ?_)
        rw [View.read_write_univ, hfs]
        show _ = holds (nxt c) (dstM j) h (sent m j.val (prv (nxt c)) h)
        rw [prv_nxt])) $$ [HO Hs Hd Ht Ht']
  · isplitr; · iexact HI
    isplitr; · iexact HI'
    isplitl [Hs]; · iexact Hs
    isplitl [Hd]; · iexact Hd
    isplitl [HO]; · iexact HO
    isplitl [Ht]; · iexact Ht
    isplitr; · iexact HR
    isplitl [Ht']; · iexact Ht'
    iexact HR'
  iintro ⟨Hc, HO⟩
  rw [wp_ret]; imodintro
  iapply Hk
  isplitl [HO]; · iexists W; iexact HO
  iexact Hc

omit [FloatOps F] in
/-- A half written with what `src` holds, holds it. -/
theorem copied (c : Dev nD) (h : Fin 2) {sp sp' : Space} (src : Memref sig .tc sp S4096x512 .f32) (M : Memref sig .tc sp' S4096x1024 .f32)
    (fs : Buf (Elt F) (src.view.loc (c : Thread nD τ))) (fd : Buf (Elt F) ((half M h).view.loc (c : Thread nD τ))) (X : FVec F S4096x512 .f32)
    (hX : src.view.read (Elt F) fs = X) :
    ((half M h).view.loc (c : Thread nD τ) ↦[(half M h).view.set]{fullShare} ((half M h).view.write (Elt F) fd (src.view.read (Elt F) fs) Finset.univ) : sProp 𝕄)
      ⊢ holds c M h X := by
  refine (owns_intro (c : Thread nD τ) (half M h) fullShare _).trans (Entails.of_eq ?_)
  rw [View.read_write_univ, hX]

/-- Copy what `src` holds into half `h` of `M` here: in flight, to bring both. -/
theorem copy_step (c : Dev nD) (h : Fin 2) {sp sp' : Space} (src : Memref sig .tc sp S4096x512 .f32) (M : Memref sig .tc sp' S4096x1024 .f32)
    (s : DmaSems sig S_) (hsrc : src.view.WordExact) (hdst : (half M h).view.WordExact) (hN : (half M h).view.dmaCredit = N)
    (hsem : DmaTarget.Typed (nD := nD) (τ := τ) (p := .tc) sp (.dma s.sem) (.here (half M h)))
    (p : PosShare TreeShare) (fs : Buf (Elt F) (src.view.loc (c : Thread nD τ))) (X : FVec F S4096x512 .f32) (hX : src.view.read (Elt F) fs = X) (Q : PUnit → sProp 𝕄) :
    iprop((src.view.loc (c : Thread nD τ) ↦[src.view.set]{p} fs) ∗ spot c M h ∗ rest c s)
      ⊢ iprop((flying c s iprop(holds c M h X ∗ (src.view.loc (c : Thread nD τ) ↦[src.view.set]{p} fs)) -∗ Q ⟨⟩)
          -∗ run c (Prog.lift (.enqueueDma src (.here (half M h)) (.dma s.sem) hsrc hdst hsem)) Q) := by
  unfold spot slot
  iintro ⟨Hs, ⟨%fd, Hd⟩, Hv⟩ Hk
  unfold Prog.lift
  iapply (wp_dmaLocal EC 𝒱₀ (c : Thread nD τ) none (src := src) (dst := half M h) (sm := .dma s.sem) (q := p) (fs := fs) (fd := fd)
      (Sd := (half M h).view.set) 0 N ((View.amount_dma _ _).trans hN) N_pos (Finset.Subset.refl _)) $$ [Hs Hd Hv]
  · isplitl [Hs]; · iexact Hs
    isplitl [Hd] <;> iassumption
  iintro HF
  rw [wp_ret]; imodintro
  iapply Hk
  iapply (Flight_mono EC (c : Thread nD τ) (sep_mono_left (copied c h src M fs fd X hX))) $$ HF

/-! ## The sum -/

/-- Half `h` of `t` is added to half `h` of `A`. -/
theorem accum_step (c : Dev nD) (A : Memref sig .tc .vmem S4096x1024 .f32) (h : Fin 2) (X Y : FVec F S4096x512 .f32) (Q : PUnit → sProp 𝕄) :
    iprop(holds c A h X ∗ holds c tM h Y)
      ⊢ iprop(((holds c A h (k0_pay1 X Y) ∗ spot c tM h) -∗ Q ⟨⟩) -∗ run c (accum A h) Q) := by
  unfold holds owns
  iintro ⟨⟨%f, %hf, HA⟩, ⟨%g, %hg, HT⟩⟩ Hk
  unfold accum
  simp only [Prog.lift, Prog.bind_op, Prog.bind_ret, Prog.pure_eq_ret]
  iapply (wp_load 𝒱₀ (c : Thread nD τ) none Set.univ (m := half A h) (View.setOn_subset_set _ _)) $$ HA; iintro HA
  iapply (wp_load 𝒱₀ (c : Thread nD τ) none Set.univ (m := half tM h) (View.setOn_subset_set _ _)) $$ HT; iintro HT
  iapply (wp_load 𝒱₀ (c : Thread nD τ) none Set.univ (m := half A h) (View.setOn_subset_set _ _)) $$ HA; iintro HA
  iapply (wp_store 𝒱₀ (c : Thread nD τ) none Set.univ (m := half A h) (r := Rect.unit (s := S4096x512) ![0, 0] S4096x512.size inb_S4096x512_S4096x512_0_0) (Mk := Finset.univ)
      (S := (half A h).view.set) (f := f) ((View.setOn_subset_set _ _).trans (View.set_slice_subset _ _))) $$ HA; iintro HA
  rw [wp_ret]; imodintro
  iapply Hk
  isplitl [HA]
  · iexists (((half A h).access (Rect.unit (s := S4096x512) ![0, 0] S4096x512.size inb_S4096x512_S4096x512_0_0)).write (Elt F) f
      (k0_pay1 ((half A h).view.readAt (Elt F) (Rect.unit (s := S4096x512) ![0, 0] S4096x512.size inb_S4096x512_S4096x512_0_0).toLoadRect f)
        ((half tM h).view.readAt (Elt F) (Rect.unit (s := S4096x512) ![0, 0] S4096x512.size inb_S4096x512_S4096x512_0_0).toLoadRect g)) Finset.univ)
    isplitr
    · ipureintro
      rw [View.readAt_full, View.readAt_full, hf, hg]
      exact View.read_writes_full (half A h).view f inb_S4096x512_S4096x512_0_0 (k0_pay1 X Y) []
    · iexact HA
  · unfold spot slot
    iexists g; iexact HT

end Cert.RingProof
-- ==== Proof.Body.lean ====
/-
The stages, run: what each takes of a device's state and what it leaves.
-/
module

public import proofs.«01_k».proof.Proof.Rules

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MF F

variable (m : (ℓ : Loc nD τ sig) → Buf (Elt F) ℓ)

variable (K : Dev nD × Cid → ℕ) (J : Key → ℕ)

/-! ## The state between stages -/

/-- Half `h` of block `k` is being fetched: what the fetch brings, and the rest of the argument at its share. -/
def fetched (c : Dev nD) (k : Fin 4) (h : Fin 2) : sProp 𝕄 :=
  iprop(flying c (copyS h) iprop(holds c tM h (blk m c k h) ∗ xPart m c k h (qf h)) ∗ xRest m c k h (qf h))

/-- No fetch for half `h` is under way. -/
def idle (c : Dev nD) (h : Fin 2) : sProp 𝕄 :=
  iprop(spot c tM h ∗ rest c (copyS h) ∗ xAll m c (qf h))

/-- Where device `c` stands with the credit semaphore after `n` of its two waits. -/
def credited (c : Dev nD) : ℕ → sProp 𝕄
  | 0 => iprop(before c .credit ∗ crd c .credit 0 1 ∗ crd c .credit 1 1)
  | 1 => iprop((∃ S : Finset (Fin 2), ⌜S ⊆ Finset.univ⌝ ∗ atPos ER (cell c .credit) 0 S 1 ∗ bigSep S (fun d => pay m c .credit d))
      ∗ crd c .credit 1 1 ∗ released ES (c, (0 : Fin 2)) 1)
  | _ => after c .credit

/-! ## The stages -/

omit [FloatOps F] in
theorem credit_dst (j : Fin 3) (h : Fin 2) : (half (dstM j) h).view.dmaCredit = N := by
  fin_cases j
  · exact credit_r0 h
  · exact credit_r1 h
  · exact credit_r0 h

theorem pay_bar (c : Dev nD) (d : Fin 2) : pay m c .bar d
    = if d = 1 then iprop(spot (nxt c) r0M 0 ∗ spot (nxt c) r0M 1 ∗ spot (nxt c) r1M 0 ∗ spot (nxt c) r1M 1) else iprop(emp) := rfl
theorem pay_bar_right (c : Dev nD) : pay m (prv c) .bar 1 = iprop(spot c r0M 0 ∗ spot c r0M 1 ∗ spot c r1M 0 ∗ spot c r1M 1) := by
  rw [pay_bar, if_pos rfl, nxt_prv]
theorem pay_bar_left (c : Dev nD) : pay m c .bar 0 = iprop(emp) := by
  rw [pay_bar, if_neg (by decide)]
theorem pay_bar_own (c : Dev nD) : bigSep (dutiesOf .bar) (fun d => pay m c .bar d)
    = iprop(emp ∗ spot (nxt c) r0M 0 ∗ spot (nxt c) r0M 1 ∗ spot (nxt c) r1M 0 ∗ spot (nxt c) r1M 1) := by
  show bigSep Finset.univ (fun d => pay m c .bar d) = _
  rw [bigSep_univ_eq_bigSepL [0, 1] (by decide) (by decide), bigSepL_cons_cons, bigSepL_singleton, pay_bar_left, pay_bar, if_pos rfl]
  rfl

/-- The handshake: this device's landing buffers go to the left neighbour, the right neighbour's come. -/
theorem entry_run (c : Dev nD) (Q : PUnit → sProp 𝕄) :
    iprop(shared m K J ∗ owed c 10 ∗ before c .bar ∗ crd c .bar 0 2 ∗ tok (prv c) .bar 1 ∗ tok (nxt c) .bar 0
        ∗ spot c r0M 0 ∗ spot c r0M 1 ∗ spot c r1M 0 ∗ spot c r1M 1)
      ⊢ iprop(((owed c 8 ∗ after c .bar ∗ spot (nxt c) r0M 0 ∗ spot (nxt c) r0M 1 ∗ spot (nxt c) r1M 0 ∗ spot (nxt c) r1M 1) -∗ Q ⟨⟩)
          -∗ run c (entry (prv c) (nxt c)) Q) := by
  iintro ⟨#HS, HO, Hat, Hc, Ht, Ht', H1, H2, H3, H4⟩ Hk
  unfold entry run
  rw [wp_bind, wp_bind]
  iapply (signal_step m K J c (prv c) .bar barS rfl 1 (Finset.mem_univ _) rfl 0 9 rfl _) $$ [HO Ht H1 H2 H3 H4]
  · rw [pay_bar_right]
    isplitr; · iexact HS
    isplitl [HO]; · iexact HO
    isplitl [Ht]; · iexact Ht
    isplitl [H1]; · iexact H1
    isplitl [H2]; · iexact H2
    isplitl [H3] <;> iassumption
  iintro HO
  iapply (signal_step m K J c (nxt c) .bar barS rfl 0 (Finset.mem_univ _) rfl 0 8 rfl _) $$ [HO Ht']
  · rw [pay_bar_left]
    isplitr; · iexact HS
    isplitl [HO]; · iexact HO
    isplitl [Ht']; · iexact Ht'
    iempintro
  iintro ⟨%W, HO⟩
  ihave HI := (shared_inv m K J c .bar) $$ HS
  unfold semWaitWord
  iapply (Rounds.wp_wait_rest_token 𝒱₀ ER (Rd m) (c : Thread nD τ) none (κ := K (c, .bar))
      (wpE_semWait_eq 𝒱₀ (c : Thread nD τ) none Set.univ) (Set.mem_univ _) 0 (O := owing c 8) (W := W) (R := 0) (m := 0) (T := ∅)
      (by show _ = (Rd m).expect (cell c .bar) 0; rw [expect_cell]; decide)) $$ [Hc HO Hat]
  · isplitr; · iexact HI
    isplitl [Hc]; · iexact Hc
    isplitl [HO]; · iexact HO
    isplitr
    · iapply (shared_wait m K J c (.reg barS) 0 8 (.inr (.inl (by
        show lv (cell c .bar) 0 < _; rw [lv_cell]; decide)))) $$ HS
    iexact Hat
  iintro ⟨HO, Hat, -, Hp⟩
  ihave Hp := (show bigSep ((Rd m).duties ((c : Thread nD τ), .reg barS) 0 \ ∅) (fun d => (Rd m).payload ((c : Thread nD τ), .reg barS) 0 d) ⊢ _
    from Entails.of_eq ((rest_cell m c .bar).trans (pay_bar_own m c))) $$ Hp
  icases Hp with ⟨-, Hp⟩
  rw [wp_ret]; imodintro
  iapply Hk
  isplitl [HO]; · iexists _; iexact HO
  isplitl [Hat]; · iexact Hat
  iexact Hp

/-- The first hop of a half. -/
theorem hop0_run (c : Dev nD) (h : Fin 2) (off : Fin 3 → ℕ) (hin) (hoff : off = offN (blkOf c 0) h) (q : ℕ)
    (hq : due c (9 - q) = tallyAt (cell (nxt c) (.rcv 0 h)) 0 N) (Q : PUnit → sProp 𝕄) :
    iprop(shared m K J ∗ owed c (q + 1) ∗ xPart m c (blkOf c 0) h (qs h) ∗ spot (nxt c) r0M h ∗ tok c (.snd 0 h) 0 ∗ tok (nxt c) (.rcv 0 h) 0)
      ⊢ iprop(((owed c q ∗ crd c (.snd 0 h) 0 N) -∗ Q ⟨⟩) -∗ run c (hop0 (nxt c) off hin h) Q) := by
  subst hoff
  unfold hop0 xPart
  exact send_step m K J c 0 h q hq (xB (blkOf c 0) h) _ _ _ (credit_r0 h) _ (qs h) _ rfl (BI.Entails.refl _) Q

/-- A later hop of a half: what it sends is the sum so far. -/
theorem hop_run (c : Dev nD) (A B : Memref sig .tc .vmem S4096x1024 .f32) (j : Fin 3) (h : Fin 2) (hB : B = dstM j) (q : ℕ)
    (hq : due c (9 - q) = tallyAt (cell (nxt c) (.rcv j h)) 0 N) (hp : pay m c (.snd j h) 0 = spot c A h) (Q : PUnit → sProp 𝕄) :
    iprop(shared m K J ∗ owed c (q + 1) ∗ holds c A h (sent m j.val c h) ∗ spot (nxt c) B h ∗ tok c (.snd j h) 0 ∗ tok (nxt c) (.rcv j h) 0)
      ⊢ iprop(((owed c q ∗ crd c (.snd j h) 0 N) -∗ Q ⟨⟩) -∗ run c (hop (nxt c) A B j h) Q) := by
  subst hB
  unfold hop holds owns
  iintro ⟨HS, HO, ⟨%f, %hf, HA⟩, Hr⟩
  iapply (send_step m K J c j h q hq (half A h) _ _ _ (credit_dst j h) _ fullShare f hf (by
    rw [hp]; unfold spot slot; iintro H; iexists f; iexact H) Q)
  isplitl [HS]; · iexact HS
  isplitl [HO]; · iexact HO
  isplitl [HA] <;> iassumption

/-- Start fetching a half of a block. -/
theorem fetch_run (c : Dev nD) (k : Fin 4) (h : Fin 2) (off : Fin 3 → ℕ) (hin) (hoff : off = offN k h) (Q : PUnit → sProp 𝕄) :
    idle m c h ⊢ iprop((fetched m c k h -∗ Q ⟨⟩) -∗ run c (fetch off hin h) Q) := by
  subst hoff
  unfold idle fetch fetched
  iintro ⟨Ht, Hv, Hx⟩ Hk
  ihave Hx := (xAll_split m c k h (qf h)).1 $$ Hx
  icases Hx with ⟨Hx, Hr⟩
  iapply (copy_step c h (xB k h) tM (copyS h) _ _ (credit_t h) _ (qf h) _ (blk m c k h) rfl Q) $$ [Ht Hv Hx]
  · unfold xPart
    isplitl [Hx]; · iexact Hx
    isplitl [Ht] <;> iassumption
  iintro HF
  iapply Hk
  isplitl [HF]; · unfold xPart; iexact HF
  iexact Hr

/-- What arrived by hop `j`, added to the fetched block, is the next sum. -/
theorem gather_run (c : Dev nD) {sp : Space} (a : Memref sig .tc sp S4096x512 .f32) (ha : a.view.WordExact) (A : Memref sig .tc .vmem S4096x1024 .f32)
    (j : Fin 3) (h : Fin 2) (hA : A = dstM j) (off : Fin 3 → ℕ) (hin) (q : ℕ) (hq : rank (.rcv j h) 0 < 10 - q ∨ q = 0)
    (hs : ∀ k : Cid, k.sem ≠ .dma (copyS h).sem) (Q : PUnit → sProp 𝕄) :
    iprop(shared m K J ∗ owed c q ∗ before c (.rcv j h) ∗ crd c (.rcv j h) 0 N ∗ fetched m c (blkOf c (Fin.ofNat 4 (j.val + 1))) h)
      ⊢ iprop(((owed c q ∗ after c (.rcv j h) ∗ holds c A h (sent m (j.val + 1) c h) ∗ idle m c h) -∗ Q ⟨⟩)
          -∗ run c (gather a ha A j h off hin) Q) := by
  subst hA
  unfold gather run fetched idle
  iintro ⟨#HS, HO, Hat, Hc, HF, Hr⟩ Hk
  rw [wp_bind, wp_bind]
  iapply (await_step m K J c (.rcv j h) (recvS j h) rfl rfl rfl a (half (dstM j) h) _ _ (credit_dst j h) q (.inr hq) _) $$ [HO Hat Hc]
  · isplitr; · iexact HS
    isplitl [HO]; · iexact HO
    isplitl [Hat] <;> iassumption
  iintro ⟨HO, Hat, HA⟩
  iapply (await_local m K J c (copyS h) hs (xC off hin) (half tM h) _ _ (credit_t h) q _ _) $$ [HO HF]
  · isplitr; · iexact HS
    isplitl [HO] <;> iassumption
  iintro ⟨HO, Hv, HT, Hx⟩
  iapply (accum_step c (dstM j) h (sent m j.val (prv c) h) (blk m c (blkOf c (Fin.ofNat 4 (j.val + 1))) h) _) $$ [HA HT]
  · isplitl [HA]; · unfold pay; iexact HA
    iexact HT
  iintro ⟨HA, HT⟩
  iapply Hk
  isplitl [HO]; · iexact HO
  isplitl [Hat]; · iexact Hat
  isplitl [HA]; · iexact HA
  isplitl [HT]; · iexact HT
  isplitl [Hv]; · iexact Hv
  iapply (xAll_split m c _ h (qf h)).2
  isplitl [Hx] <;> iassumption

omit [FloatOps F] in
/-- There is no second copy of a half's elements. -/
theorem spot_twice (c : Dev nD) (h : Fin 2) : iprop(spot c r0M h ∗ spot c r0M h) ⊢ (False : sProp 𝕄) :=
  slot_slot_false (half_nonempty r0M h)

/-- The left neighbour may write half `h` of `r0` again: this device's second hop has left it. -/
theorem give_run (c : Dev nD) (h : Fin 2) (q : ℕ) (hq : due c (9 - q) = tallyAt (cell (prv c) .credit) h 1)
    (ha hd) (R : sProp 𝕄) :
    iprop(shared m K J ∗ owed c (q + 1) ∗ before c (.snd 1 h) ∗ crd c (.snd 1 h) 0 N ∗ tok (prv c) .credit h ∗ readerAt ES (c, h) 0
        ∗ (released ES (c, h) 1 -∗ released ES (c, (0 : Fin 2)) 1))
      ⊢ iprop(((owed c q ∗ after c (.snd 1 h) ∗ released ES (c, (0 : Fin 2)) 1) -∗ R)
          -∗ run c (await (sendS 1 h) (half r1M h) (half r0M h) ha hd) fun _ => run c (semSignalWord (prv c) creditS 1#32) fun _ => R) := by
  iintro ⟨#HS, HO, Hat, Hc, Ht, Hr, Hz⟩ Hk
  iapply (await_step m K J c (.snd 1 h) (sendS 1 h) rfl rfl rfl (half r1M h) (half r0M h) _ _ (credit_r0 h) (q + 1) (.inl rfl) _) $$ [HO Hat Hc]
  · isplitr; · iexact HS
    isplitl [HO]; · iexact HO
    isplitl [Hat] <;> iassumption
  iintro ⟨HO, Hat, Hp⟩
  ihave HJ := (shared_slot m K J c h) $$ HS
  imod (slot_release ES (Set.mem_univ (J (c, h))) (spot_twice c h) 0) $$ [Hr Hp] with ⟨-, #Hr⟩
  · isplitr; · iexact HJ
    isplitl [Hr]; · iexact Hr
    unfold pay; iexact Hp
  ihave Hz := Hz $$ Hr
  icases Hz with #Hz
  iapply (signal_step m K J c (prv c) .credit creditS rfl h (Finset.mem_univ _) rfl h q hq _) $$ [HO Ht]
  · isplitr; · iexact HS
    isplitl [HO]; · iexact HO
    isplitl [Ht]; · iexact Ht
    unfold pay; rw [nxt_prv]
    isplitr; · iexact Hz
    iexact Hr
  iintro HO
  iapply Hk
  isplitl [HO]; · iexact HO
  isplitl [Hat]; · iexact Hat
  iexact Hz

theorem pay_credit (c : Dev nD) (d : Fin 2) : pay m c .credit d = iprop(released ES (nxt c, (0 : Fin 2)) 1 ∗ released ES (nxt c, d) 1) := rfl

instance pay_credit_persistent (c : Dev nD) (d : Fin 2) : BI.Persistent (pay m c .credit d) := by rw [pay_credit]; infer_instance

theorem credited_zero (c : Dev nD) : credited m c 0 = iprop(before c .credit ∗ crd c .credit 0 1 ∗ crd c .credit 1 1) := rfl
theorem credited_one (c : Dev nD) : credited m c 1 = iprop((∃ S : Finset (Fin 2), ⌜S ⊆ Finset.univ⌝ ∗ atPos ER (cell c .credit) 0 S 1
    ∗ bigSep S (fun d => pay m c .credit d)) ∗ crd c .credit 1 1 ∗ released ES (c, (0 : Fin 2)) 1) := rfl
theorem credited_two (c : Dev nD) : credited m c 2 = after c .credit := rfl

/-- The first wait for the right neighbour's credit: one of its units came, and either says its half 0 is free. -/
theorem credit_first (c : Dev nD) (Q : PUnit → sProp 𝕄) :
    iprop(shared m K J ∗ owed c 3 ∗ credited m c 0 ∗ released ES (c, (0 : Fin 2)) 1)
      ⊢ iprop(((owed c 3 ∗ credited m c 1 ∗ released ES (nxt c, (0 : Fin 2)) 1) -∗ Q ⟨⟩) -∗ run c (semWaitWord creditS 1#32) Q) := by
  rw [credited_zero, credited_one]
  iintro ⟨#HS, ⟨%W, HO⟩, ⟨Hat, Hc, Hc'⟩, Hz⟩ Hk
  ihave HI := (shared_inv m K J c .credit) $$ HS
  unfold semWaitWord
  iapply (Rounds.wp_wait 𝒱₀ ER (Rd m) (c : Thread nD τ) none (κ := K (c, .credit)) (sm := .reg creditS)
      (wpE_semWait_eq 𝒱₀ (c : Thread nD τ) none Set.univ) (Set.mem_univ _) (cr := Finsupp.single (0 : Fin 2) 1) {(SemLoc.reg creditS, (0 : Fin 2))}
      (O := owing c 3) (W := W) (R := 0) (m := 0) (T := ∅) (by rw [Util.total_single]; decide) (image_single_subset _ _ _)) $$ [Hc HO Hat]
  · isplitr; · iexact HI
    isplitl [Hc]; · iexact Hc
    isplitl [HO]; · iexact HO
    isplitr
    · iapply (shared_wait m K J c (.reg creditS) 0 3 (.inr (.inl (by
        show lv (cell c .credit) 0 < _; rw [lv_cell]; decide)))) $$ HS
    iexact Hat
  iintro %S ⟨%hS, HO, Hat, Hp⟩
  rw [Finset.sdiff_empty]
  ihave Hp := (show bigSep S (fun d => (Rd m).payload ((c : Thread nD τ), .reg creditS) 0 d) ⊢ bigSep S (fun d => pay m c .credit d)
    from Entails.of_eq (bigSep_congr fun d _ => payload_cell m c .credit d)) $$ Hp
  icases Hp with #Hp
  have hne : S.Nonempty := by
    obtain ⟨-, hsub, hcard⟩ := hS
    by_contra hne
    rw [Finset.not_nonempty_iff_eq_empty.mp hne, Finset.sdiff_empty, show (Rd m).duties ((c : Thread nD τ), .reg creditS) 0 = Finset.univ from duties_cell m c .credit,
      show (Rd m).expect ((c : Thread nD τ), .reg creditS) 0 = 2 from expect_cell m c .credit] at hcard
    exact absurd hcard (by decide)
  obtain ⟨d, hd⟩ := hne
  ihave Hd := (show bigSep S (fun d => pay m c .credit d) ⊢ iprop(released ES (nxt c, (0 : Fin 2)) 1 ∗ released ES (nxt c, d) 1) from bigSep_elim hd) $$ Hp
  icases Hd with ⟨Hd, -⟩
  rw [wp_ret]; imodintro
  iapply Hk
  isplitl [HO]; · iexists _; iexact HO
  isplitr [Hd]
  · isplitl [Hat]
    · iexists S
      isplitr; · ipureintro; exact Finset.subset_univ S
      isplitl [Hat]; · iexact Hat
      iexact Hp
    isplitl [Hc'] <;> iassumption
  iexact Hd

/-- The second wait: with both units here, half 1 is free too. -/
theorem credit_second (c : Dev nD) (Q : PUnit → sProp 𝕄) :
    iprop(shared m K J ∗ owed c 1 ∗ credited m c 1)
      ⊢ iprop(((owed c 1 ∗ credited m c 2 ∗ released ES (nxt c, (1 : Fin 2)) 1) -∗ Q ⟨⟩) -∗ run c (semWaitWord creditS 1#32) Q) := by
  rw [credited_one, credited_two]
  iintro ⟨#HS, ⟨%W, HO⟩, ⟨%S, %hS, Hat, #Hp⟩, Hc, -⟩ Hk
  ihave HI := (shared_inv m K J c .credit) $$ HS
  unfold semWaitWord
  iapply (Rounds.wp_wait_rest_token 𝒱₀ ER (Rd m) (c : Thread nD τ) none (κ := K (c, .credit)) (sm := .reg creditS)
      (wpE_semWait_eq 𝒱₀ (c : Thread nD τ) none Set.univ) (Set.mem_univ _) 1 (O := owing c 1) (W := W) (R := 0) (m := 1) (T := S)
      (by show _ = (Rd m).expect (cell c .credit) 0; rw [expect_cell]; decide)) $$ [Hc HO Hat]
  · isplitr; · iexact HI
    isplitl [Hc]; · iexact Hc
    isplitl [HO]; · iexact HO
    isplitr
    · iapply (shared_wait m K J c (.reg creditS) 1 1 (.inr (.inl (by
        show lv (cell c .credit) 1 < _; rw [lv_cell]; decide)))) $$ HS
    iexact Hat
  iintro ⟨HO, Hat, -, Hp'⟩
  ihave Hp' := (show bigSep ((Rd m).duties ((c : Thread nD τ), .reg creditS) 0 \ S) (fun d => (Rd m).payload ((c : Thread nD τ), .reg creditS) 0 d)
      ⊢ bigSep (Finset.univ \ S) (fun d => pay m c .credit d)
    from Entails.of_eq (by
      rw [show (Rd m).duties ((c : Thread nD τ), .reg creditS) 0 = Finset.univ from duties_cell m c .credit]
      exact bigSep_congr fun d _ => payload_cell m c .credit d)) $$ Hp'
  rw [wp_ret]; imodintro
  iapply Hk
  isplitl [HO]; · iexists _; iexact HO
  isplitl [Hat]; · iexact Hat
  by_cases h1 : (1 : Fin 2) ∈ S
  · ihave Hd := (show bigSep S (fun d => pay m c .credit d) ⊢ iprop(released ES (nxt c, (0 : Fin 2)) 1 ∗ released ES (nxt c, (1 : Fin 2)) 1) from bigSep_elim h1) $$ Hp
    icases Hd with ⟨-, Hd⟩
    iexact Hd
  · ihave Hd := (show bigSep (Finset.univ \ S) (fun d => pay m c .credit d) ⊢ iprop(released ES (nxt c, (0 : Fin 2)) 1 ∗ released ES (nxt c, (1 : Fin 2)) 1)
      from bigSep_elim (Finset.mem_sdiff.mpr ⟨Finset.mem_univ _, h1⟩)) $$ Hp'
    icases Hd with ⟨-, Hd⟩
    iexact Hd

/-! ## Whole stages -/

/-- What half `h` takes into the first hop, beside the target: the argument's part and the tokens of departure and arrival; -/
def res0 (c : Dev nD) (h : Fin 2) : sProp 𝕄 :=
  iprop(xPart m c (blkOf c 0) h (qs h) ∗ tok c (.snd 0 h) 0 ∗ tok (nxt c) (.rcv 0 h) 0)
/-- into the stage of the first arrival; -/
def res1 (c : Dev nD) (h : Fin 2) : sProp 𝕄 :=
  iprop(before c (.rcv 0 h) ∗ crd c (.rcv 0 h) 0 N ∗ tok c (.snd 1 h) 0 ∗ tok (nxt c) (.rcv 1 h) 0)
/-- into the stage of the second arrival; -/
def res2 (c : Dev nD) (h : Fin 2) : sProp 𝕄 :=
  iprop(before c (.rcv 1 h) ∗ crd c (.rcv 1 h) 0 N ∗ before c (.snd 1 h) ∗ tok (prv c) .credit h ∗ readerAt ES (c, h) 0
    ∗ writeTok ES (nxt c, h) 1 ∗ tok c (.snd 2 h) 0 ∗ tok (nxt c) (.rcv 2 h) 0)
/-- into the stage of the last arrival; -/
def res3 (c : Dev nD) (h : Fin 2) : sProp 𝕄 :=
  iprop(before c (.rcv 2 h) ∗ crd c (.rcv 2 h) 0 N ∗ spot c oM h ∗ rest c (outS h))
/-- and into the closing waits. -/
def res4 (c : Dev nD) (h : Fin 2) : sProp 𝕄 :=
  iprop(before c (.snd 0 h) ∗ before c (.snd 2 h))

theorem stage1_run (c : Dev nD) (h : Fin 2) (q : ℕ) (hq : due c (9 - q) = tallyAt (cell (nxt c) (.rcv 1 h)) 0 N)
    (hr : rank (.rcv 0 h) 0 < 10 - (q + 1) ∨ q + 1 = 0) (hs : ∀ k : Cid, k.sem ≠ .dma (copyS h).sem) (Q : PUnit → sProp 𝕄) :
    iprop(shared m K J ∗ owed c (q + 1) ∗ res1 c h ∗ fetched m c (blkOf c 1) h ∗ spot (nxt c) r1M h)
      ⊢ iprop(((owed c q ∗ after c (.rcv 0 h) ∗ crd c (.snd 1 h) 0 N ∗ fetched m c (blkOf c 2) h) -∗ Q ⟨⟩)
          -∗ run c (stage1 (nxt c) c h) Q) := by
  unfold res1 stage1 run
  iintro ⟨#HS, HO, ⟨Hat, Hc, Ht, Ht'⟩, HF, Hd⟩ Hk
  rw [wp_bind, wp_bind]
  iapply (gather_run m K J c _ _ r0M 0 h rfl _ _ (q + 1) hr hs _) $$ [HO Hat Hc HF]
  · isplitr; · iexact HS
    isplitl [HO]; · iexact HO
    isplitl [Hat]; · iexact Hat
    isplitl [Hc]; · iexact Hc
    iexact HF
  iintro ⟨HO, Hat, HA, Hi⟩
  iapply (hop_run m K J c r0M r1M 1 h rfl q hq rfl _) $$ [HO HA Hd Ht Ht']
  · isplitr; · iexact HS
    isplitl [HO]; · iexact HO
    isplitl [HA]; · iexact HA
    isplitl [Hd]; · iexact Hd
    isplitl [Ht] <;> iassumption
  iintro ⟨HO, Hc⟩
  iapply (fetch_run m c (blkOf c 2) h _ _ (off1_eq c 2 h) _) $$ Hi
  iintro HF
  iapply Hk
  isplitl [HO]; · iexact HO
  isplitl [Hat]; · iexact Hat
  isplitl [Hc]; · iexact Hc
  iexact HF

theorem stage2_run (c : Dev nD) (h : Fin 2) (q : ℕ) (hq : due c (9 - q) = tallyAt (cell (nxt c) (.rcv 2 h)) 0 N)
    (hq' : due c (9 - (q + 1)) = tallyAt (cell (prv c) .credit) h 1)
    (hr : rank (.rcv 1 h) 0 < 10 - (q + 2) ∨ q + 2 = 0) (hs : ∀ k : Cid, k.sem ≠ .dma (copyS h).sem) (n : ℕ)
    (hz : credited m c n ⊢ iprop(credited m c n ∗ (released ES (c, h) 1 -∗ released ES (c, (0 : Fin 2)) 1)))
    (hw : ∀ Q : PUnit → sProp 𝕄, iprop(shared m K J ∗ owed c (q + 1) ∗ credited m c n ∗ released ES (c, (0 : Fin 2)) 1)
      ⊢ iprop(((owed c (q + 1) ∗ credited m c (n + 1) ∗ released ES (nxt c, h) 1) -∗ Q ⟨⟩) -∗ run c (semWaitWord creditS 1#32) Q))
    (Q : PUnit → sProp 𝕄) :
    iprop(shared m K J ∗ owed c (q + 2) ∗ res2 c h ∗ fetched m c (blkOf c 2) h ∗ crd c (.snd 1 h) 0 N ∗ credited m c n)
      ⊢ iprop(((owed c q ∗ after c (.rcv 1 h) ∗ after c (.snd 1 h) ∗ crd c (.snd 2 h) 0 N ∗ fetched m c (blkOf c 3) h ∗ credited m c (n + 1)) -∗ Q ⟨⟩)
          -∗ run c (stage2 (prv c) (nxt c) c h) Q) := by
  unfold res2 stage2 handback run
  iintro ⟨#HS, HO, ⟨Hat, Hc, Hat1, Ht, Hr, Hw, Ht1, Ht2⟩, HF, Hc1, Hcr⟩ Hk
  rw [wp_bind, wp_bind, wp_bind, wp_bind, wp_bind]
  iapply (gather_run m K J c _ _ r1M 1 h rfl _ _ (q + 2) hr hs _) $$ [HO Hat Hc HF]
  · isplitr; · iexact HS
    isplitl [HO]; · iexact HO
    isplitl [Hat]; · iexact Hat
    isplitl [Hc]; · iexact Hc
    iexact HF
  iintro ⟨HO, Hat, HA, Hi⟩
  ihave Hcr := hz $$ Hcr
  icases Hcr with ⟨Hcr, Hz⟩
  iapply (give_run m K J c h (q + 1) hq' _ _ _) $$ [HO Hat1 Hc1 Ht Hr Hz]
  · isplitr; · iexact HS
    isplitl [HO]; · iexact HO
    isplitl [Hat1]; · iexact Hat1
    isplitl [Hc1]; · iexact Hc1
    isplitl [Ht]; · iexact Ht
    isplitl [Hr] <;> iassumption
  iintro ⟨HO, Hat1, Hz⟩
  iapply (hw _) $$ [HO Hcr Hz]
  · isplitr; · iexact HS
    isplitl [HO]; · iexact HO
    isplitl [Hcr] <;> iassumption
  iintro ⟨HO, Hcr, Hz⟩
  ihave HJ := (shared_slot m K J (nxt c) h) $$ HS
  imod (slot_take ES (Set.mem_univ (J (nxt c, h))) 1) $$ [Hz Hw] with Hd
  · isplitr; · iexact HJ
    isplitl [Hz] <;> iassumption
  iapply (hop_run m K J c r1M r0M 2 h rfl q hq rfl _) $$ [HO HA Hd Ht1 Ht2]
  · isplitr; · iexact HS
    isplitl [HO]; · iexact HO
    isplitl [HA]; · iexact HA
    isplitl [Hd]; · iexact Hd
    isplitl [Ht1] <;> iassumption
  iintro ⟨HO, Hc⟩
  iapply (fetch_run m c (blkOf c 3) h _ _ (off2_eq c h) _) $$ Hi
  iintro HF
  iapply Hk
  isplitl [HO]; · iexact HO
  isplitl [Hat]; · iexact Hat
  isplitl [Hat1]; · iexact Hat1
  isplitl [Hc]; · iexact Hc
  isplitl [HF] <;> iassumption

/-- The result's half is on its way out: it and the half of `r0` it leaves from. -/
def leaving (c : Dev nD) (h : Fin 2) : sProp 𝕄 :=
  flying c (outS h) iprop(holds c oM h (sent m 3 c h) ∗ spot c r0M h)

theorem stage3_run (c : Dev nD) (h : Fin 2) (hs : ∀ k : Cid, k.sem ≠ .dma (copyS h).sem) (Q : PUnit → sProp 𝕄) :
    iprop(shared m K J ∗ owed c 0 ∗ res3 c h ∗ fetched m c (blkOf c 3) h)
      ⊢ iprop(((owed c 0 ∗ after c (.rcv 2 h) ∗ idle m c h ∗ leaving m c h) -∗ Q ⟨⟩) -∗ run c (stage3 c h) Q) := by
  unfold res3 stage3 emit leaving run
  iintro ⟨#HS, HO, ⟨Hat, Hc, Ho, Hv⟩, HF⟩ Hk
  rw [wp_bind]
  iapply (gather_run m K J c _ _ r0M 2 h rfl _ _ 0 (.inr rfl) hs _) $$ [HO Hat Hc HF]
  · isplitr; · iexact HS
    isplitl [HO]; · iexact HO
    isplitl [Hat]; · iexact Hat
    isplitl [Hc]; · iexact Hc
    iexact HF
  unfold holds owns
  iintro ⟨HO, Hat, ⟨%f, %hf, HA⟩, Hi⟩
  iapply (copy_step c h (half r0M h) oM (outS h) _ _ (credit_o h) _ fullShare f (sent m 3 c h) hf Q) $$ [Ho Hv HA]
  · isplitl [HA]; · iexact HA
    isplitl [Ho] <;> iassumption
  iintro HF
  iapply Hk
  isplitl [HO]; · iexact HO
  isplitl [Hat]; · iexact Hat
  isplitl [Hi]; · iexact Hi
  iapply (Flight_mono EC (c : Thread nD τ) (show iprop(holds c oM h (sent m 3 c h) ∗ ((half r0M h).view.loc (c : Thread nD τ) ↦[(half r0M h).view.set]{fullShare} f))
      ⊢ iprop(holds c oM h (sent m 3 c h) ∗ spot c r0M h) from sep_mono_right (by unfold spot slot; iintro H; iexists f; iexact H))) $$ HF

theorem finish_run (c : Dev nD) (h : Fin 2) (off : Fin 3 → ℕ) (hin) (hs : ∀ k : Cid, k.sem ≠ .dma (outS h).sem) (Q : PUnit → sProp 𝕄) :
    iprop(shared m K J ∗ owed c 0 ∗ res4 c h ∗ leaving m c h ∗ crd c (.snd 0 h) 0 N ∗ crd c (.snd 2 h) 0 N)
      ⊢ iprop(((owed c 0 ∗ after c (.snd 0 h) ∗ after c (.snd 2 h) ∗ rest c (outS h) ∗ holds c oM h (sent m 3 c h) ∗ spot c r0M h ∗ spot c r1M h
          ∗ xPart m c (blkOf c 0) h (qs h)) -∗ Q ⟨⟩) -∗ run c (finish off hin h) Q) := by
  unfold res4 finish leaving run
  iintro ⟨#HS, HO, ⟨Hat0, Hat2⟩, HF, Hc0, Hc2⟩ Hk
  rw [wp_bind, wp_bind]
  iapply (await_local m K J c (outS h) hs (half r0M h) (half oM h) _ _ (credit_o h) 0 _ _) $$ [HO HF]
  · isplitr; · iexact HS
    isplitl [HO] <;> iassumption
  iintro ⟨HO, Hv, Ho, H0⟩
  iapply (await_step m K J c (.snd 0 h) (sendS 0 h) rfl rfl rfl (half r0M h) (xC off hin) _ _ (credit_x off hin) 0 (.inl rfl) _) $$ [HO Hat0 Hc0]
  · isplitr; · iexact HS
    isplitl [HO]; · iexact HO
    isplitl [Hat0] <;> iassumption
  iintro ⟨HO, Hat0, Hx⟩
  iapply (await_step m K J c (.snd 2 h) (sendS 2 h) rfl rfl rfl (half r0M h) (half r1M h) _ _ (credit_r1 h) 0 (.inl rfl) _) $$ [HO Hat2 Hc2]
  · isplitr; · iexact HS
    isplitl [HO]; · iexact HO
    isplitl [Hat2] <;> iassumption
  iintro ⟨HO, Hat2, H1⟩
  iapply Hk
  isplitl [HO]; · iexact HO
  isplitl [Hat0]; · iexact Hat0
  isplitl [Hat2]; · iexact Hat2
  isplitl [Hv]; · iexact Hv
  isplitl [Ho]; · iexact Ho
  isplitl [H0]; · iexact H0
  isplitl [H1]; · unfold pay; iexact H1
  unfold pay; iexact Hx

/-! ## The whole body -/

theorem copyS_apart (h : Fin 2) (k : Cid) : k.sem ≠ .dma (copyS h).sem := by revert k h; decide +kernel
theorem outS_apart (h : Fin 2) (k : Cid) : k.sem ≠ .dma (outS h).sem := by revert k h; decide +kernel

/-- What device `c` brings for half `h`. -/
def brought (c : Dev nD) (h : Fin 2) : sProp 𝕄 :=
  iprop(res0 m c h ∗ res1 c h ∗ res2 c h ∗ res3 c h ∗ res4 c h ∗ idle m c h)

/-- What it is left with: its cells past their round, the copies' semaphores at rest, the result's half, and the buffers. -/
def left (c : Dev nD) (h : Fin 2) : sProp 𝕄 :=
  iprop((after c (.snd 0 h) ∗ after c (.snd 1 h) ∗ after c (.snd 2 h) ∗ after c (.rcv 0 h) ∗ after c (.rcv 1 h) ∗ after c (.rcv 2 h))
    ∗ rest c (outS h) ∗ holds c oM h (sent m 3 c h) ∗ spot c r0M h ∗ spot c r1M h ∗ idle m c h ∗ xPart m c (blkOf c 0) h (qs h))

theorem stages_run (c : Dev nD) (Q : PUnit → sProp 𝕄) :
    iprop(shared m K J ∗ owed c 10 ∗ (before c .bar ∗ crd c .bar 0 2 ∗ tok (prv c) .bar 1 ∗ tok (nxt c) .bar 0)
        ∗ (spot c r0M 0 ∗ spot c r0M 1 ∗ spot c r1M 0 ∗ spot c r1M 1) ∗ credited m c 0 ∗ brought m c 0 ∗ brought m c 1)
      ⊢ iprop(((owed c 0 ∗ after c .bar ∗ after c .credit ∗ left m c 0 ∗ left m c 1) -∗ Q ⟨⟩)
          -∗ run c (stages c (prv c) (nxt c) (nxt c) (nxt c) (nxt c) (nxt c) (prv c) (nxt c) (prv c) (nxt c)) Q) := by
  unfold brought stages run res0 left
  iintro ⟨#HS, HO, ⟨HaB, HcB, HtB, HtB'⟩, ⟨Hs1, Hs2, Hs3, Hs4⟩, Hcr, ⟨⟨Hx0, Ht0, Hu0⟩, HA0, HB0, HC0, HD0, HI0⟩, ⟨⟨Hx1, Ht1, Hu1⟩, HA1, HB1, HC1, HD1, HI1⟩⟩ Hk
  repeat rw [wp_bind]
  iapply (entry_run m K J c _) $$ [HO HaB HcB HtB HtB' Hs1 Hs2 Hs3 Hs4]
  · isplitr; · iexact HS
    isplitl [HO]; · iexact HO
    isplitl [HaB]; · iexact HaB
    isplitl [HcB]; · iexact HcB
    isplitl [HtB]; · iexact HtB
    isplitl [HtB']; · iexact HtB'
    isplitl [Hs1]; · iexact Hs1
    isplitl [Hs2]; · iexact Hs2
    isplitl [Hs3] <;> iassumption
  iintro ⟨HO, HaB, Hs1, Hs2, Hs3, Hs4⟩
  iapply (hop0_run m K J c 0 _ _ (off1_eq c 0 0) 7 rfl _) $$ [HO Hx0 Hs1 Ht0 Hu0]
  · isplitr; · iexact HS
    isplitl [HO]; · iexact HO
    isplitl [Hx0]; · iexact Hx0
    isplitl [Hs1]; · iexact Hs1
    isplitl [Ht0] <;> iassumption
  iintro ⟨HO, Hc00⟩
  iapply (hop0_run m K J c 1 _ _ (off1_eq c 0 1) 6 rfl _) $$ [HO Hx1 Hs2 Ht1 Hu1]
  · isplitr; · iexact HS
    isplitl [HO]; · iexact HO
    isplitl [Hx1]; · iexact Hx1
    isplitl [Hs2]; · iexact Hs2
    isplitl [Ht1] <;> iassumption
  iintro ⟨HO, Hc01⟩
  iapply (fetch_run m c (blkOf c 1) 0 _ _ (off1_eq c 1 0) _) $$ HI0
  iintro HF0
  iapply (fetch_run m c (blkOf c 1) 1 _ _ (off1_eq c 1 1) _) $$ HI1
  iintro HF1
  iapply (stage1_run m K J c 0 5 rfl (.inl (by decide)) (copyS_apart 0) _) $$ [HO HA0 HF0 Hs3]
  · isplitr; · iexact HS
    isplitl [HO]; · iexact HO
    isplitl [HA0]; · iexact HA0
    isplitl [HF0] <;> iassumption
  iintro ⟨HO, HA0, Hc10, HF0⟩
  iapply (stage1_run m K J c 1 4 rfl (.inl (by decide)) (copyS_apart 1) _) $$ [HO HA1 HF1 Hs4]
  · isplitr; · iexact HS
    isplitl [HO]; · iexact HO
    isplitl [HA1]; · iexact HA1
    isplitl [HF1] <;> iassumption
  iintro ⟨HO, HA1, Hc11, HF1⟩
  iapply (stage2_run m K J c 0 2 rfl rfl (.inl (by decide)) (copyS_apart 0) 0 (by
      iintro H; isplitl [H]; · iexact H
      iintro H; iexact H) (credit_first m K J c) _) $$ [HO HB0 HF0 Hc10 Hcr]
  · isplitr; · iexact HS
    isplitl [HO]; · iexact HO
    isplitl [HB0]; · iexact HB0
    isplitl [HF0]; · iexact HF0
    isplitl [Hc10] <;> iassumption
  iintro ⟨HO, HB0, HE0, Hc20, HF0, Hcr⟩
  iapply (stage2_run m K J c 1 0 rfl rfl (.inl (by decide)) (copyS_apart 1) 1 (by
      rw [credited_one]
      iintro ⟨HA, HB, #HC⟩
      isplitl [HA HB]
      · isplitl [HA]; · iexact HA
        isplitl [HB]; · iexact HB
        iexact HC
      iintro -; iexact HC) (fun Q => by
        refine BIBase.Entails.trans ?_ (credit_second m K J c Q)
        iintro ⟨HS, HO, HC, -⟩
        isplitl [HS]; · iexact HS
        isplitl [HO] <;> iassumption) _) $$ [HO HB1 HF1 Hc11 Hcr]
  · isplitr; · iexact HS
    isplitl [HO]; · iexact HO
    isplitl [HB1]; · iexact HB1
    isplitl [HF1]; · iexact HF1
    isplitl [Hc11] <;> iassumption
  iintro ⟨HO, HB1, HE1, Hc21, HF1, Hcr⟩
  iapply (stage3_run m K J c 0 (copyS_apart 0) _) $$ [HO HC0 HF0]
  · isplitr; · iexact HS
    isplitl [HO]; · iexact HO
    isplitl [HC0] <;> iassumption
  iintro ⟨HO, HC0, HI0, HL0⟩
  iapply (stage3_run m K J c 1 (copyS_apart 1) _) $$ [HO HC1 HF1]
  · isplitr; · iexact HS
    isplitl [HO]; · iexact HO
    isplitl [HC1] <;> iassumption
  iintro ⟨HO, HC1, HI1, HL1⟩
  iapply (finish_run m K J c 0 _ _ (outS_apart 0) _) $$ [HO HD0 HL0 Hc00 Hc20]
  · isplitr; · iexact HS
    isplitl [HO]; · iexact HO
    isplitl [HD0]; · iexact HD0
    isplitl [HL0]; · iexact HL0
    isplitl [Hc00] <;> iassumption
  iintro ⟨HO, HX0, HZ0, Hv0, Hr0⟩
  iapply (finish_run m K J c 1 _ _ (outS_apart 1) _) $$ [HO HD1 HL1 Hc01 Hc21]
  · isplitr; · iexact HS
    isplitl [HO]; · iexact HO
    isplitl [HD1]; · iexact HD1
    isplitl [HL1]; · iexact HL1
    isplitl [Hc01] <;> iassumption
  iintro ⟨HO, HX1, HZ1, Hv1, Hr1⟩
  ihave Hcr := (Entails.of_eq (credited_two m c)) $$ Hcr
  iapply Hk
  isplitl [HO]; · iexact HO
  isplitl [HaB]; · iexact HaB
  isplitl [Hcr]; · iexact Hcr
  isplitl [HX0 HE0 HZ0 HA0 HB0 HC0 Hv0 Hr0 HI0]
  · icases Hr0 with ⟨Hr0, Hr1, Hr2, Hr3⟩
    isplitl [HX0 HE0 HZ0 HA0 HB0 HC0]
    · isplitl [HX0]; · iexact HX0
      isplitl [HE0]; · iexact HE0
      isplitl [HZ0]; · iexact HZ0
      isplitl [HA0]; · iexact HA0
      isplitl [HB0] <;> iassumption
    isplitl [Hv0]; · iexact Hv0
    isplitl [Hr0]; · iexact Hr0
    isplitl [Hr1]; · iexact Hr1
    isplitl [Hr2]; · iexact Hr2
    isplitl [HI0] <;> iassumption
  · icases Hr1 with ⟨Hr0, Hr1, Hr2, Hr3⟩
    isplitl [HX1 HE1 HZ1 HA1 HB1 HC1]
    · isplitl [HX1]; · iexact HX1
      isplitl [HE1]; · iexact HE1
      isplitl [HZ1]; · iexact HZ1
      isplitl [HA1]; · iexact HA1
      isplitl [HB1] <;> iassumption
    isplitl [Hv1]; · iexact Hv1
    isplitl [Hr0]; · iexact Hr0
    isplitl [Hr1]; · iexact Hr1
    isplitl [Hr2]; · iexact Hr2
    isplitl [HI1] <;> iassumption

end Cert.RingProof
-- ==== Proof.Halves.lean ====
/-
Whole buffers as their two column halves, and the argument as the shares its readers hold.
-/
module

public import proofs.«01_k».proof.Proof.Protocol

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MF F

variable (m : (ℓ : Loc nD τ sig) → Buf (Elt F) ℓ)

/-! ## The two halves of a buffer -/

/-- The columns of half `h`. -/
abbrev cols (h : Fin 2) : Rect S4096x1024 := Rect.unit (s := S4096x1024) ![0, 512 * h.val] S4096x512.size (half_inb h)

/-- An element is in half `h` when its column is. -/
theorem mem_cols (h : Fin 2) (i : S4096x1024.Idx) : i ∈ (cols h).set ↔ 512 * h.val ≤ (i 1).val ∧ (i 1).val < 512 * h.val + 512 := by
  rw [Rect.mem_set_unit, Fin.forall_fin_two]
  refine ⟨fun hi => hi.2, fun hi => ⟨⟨Nat.zero_le _, ?_⟩, hi⟩⟩
  exact lt_of_lt_of_eq (i 0).isLt (Nat.zero_add _).symm

/-- The halves have no element in common -/
theorem cols_disjoint (h h' : Fin 2) (hne : h ≠ h') : Disjoint (cols h).set (cols h').set := by
  refine Finset.disjoint_left.mpr fun i hi hi' => hne (Fin.ext ?_)
  rw [mem_cols] at hi hi'
  omega

/-- and are all there is. -/
theorem cols_cover : (Finset.univ : Finset (Fin 2)).biUnion (fun h => (cols h).set) = Finset.univ := by
  refine Finset.eq_univ_of_forall fun i => Finset.mem_biUnion.mpr ?_
  have hi : (i 1).val < 1024 := (i 1).isLt
  by_cases h : (i 1).val < 512
  · exact ⟨0, Finset.mem_univ _, (mem_cols 0 i).mpr ⟨Nat.zero_le _, by simpa using h⟩⟩
  · exact ⟨1, Finset.mem_univ _, (mem_cols 1 i).mpr ⟨by simpa using h, by simpa using hi⟩⟩

variable (c : Dev nD) (b : Ref sig .tc)

omit [FloatOps F] in
theorem bigSep_two (Φ : Fin 2 → sProp 𝕄) : bigSep Finset.univ Φ = iprop(Φ 0 ∗ Φ 1) :=
  bigSep_univ_eq_bigSepL [0, 1] (by decide) (by decide) Φ

section Halves
variable {sp : Space} (M : Memref sig .tc sp S4096x1024 .f32)

theorem half_disjoint : Disjoint (half M 0).view.set (half M 1).view.set := by
  rw [show (half M 0).view.set = (cols 0).set.map M.view.emb from View.set_slice _ _,
    show (half M 1).view.set = (cols 1).set.map M.view.emb from View.set_slice _ _]
  exact (Finset.disjoint_map _).mpr (cols_disjoint 0 1 (by decide))

theorem half_union : (half M 0).view.set ∪ (half M 1).view.set = M.view.set := by
  rw [show (half M 0).view.set = (cols 0).set.map M.view.emb from View.set_slice _ _,
    show (half M 1).view.set = (cols 1).set.map M.view.emb from View.set_slice _ _, ← Finset.map_union]
  have h := cols_cover
  rw [show (Finset.univ : Finset (Fin 2)) = {0, 1} from rfl, Finset.biUnion_insert, Finset.singleton_biUnion] at h
  rw [h]; rfl

omit [FloatOps F] in
/-- A buffer's elements are those of its two halves; -/
theorem spots_of (f : Buf (Elt F) (M.view.loc (c : Thread nD τ))) :
    (M.view.loc (c : Thread nD τ) ↦[M.view.set]{fullShare} f : sProp 𝕄) ⊢ iprop(spot c M 0 ∗ spot c M 1) := by
  have h : (M.view.loc (c : Thread nD τ) ↦[M.view.set]{fullShare} f : sProp 𝕄)
      ⊢ iprop((M.view.loc (c : Thread nD τ) ↦[(half M 0).view.set]{fullShare} f) ∗ M.view.loc (c : Thread nD τ) ↦[M.view.set \ (half M 0).view.set]{fullShare} f) :=
    (pointsTo_split_subset (half_union M ▸ Finset.subset_union_left)).1
  rw [← half_union M, Finset.union_sdiff_cancel_left (half_disjoint M), half_union M] at h
  refine h.trans ?_
  unfold spot slot
  iintro ⟨H0, H1⟩
  isplitl [H0]
  · iexists f; iexact H0
  · iexists f; iexact H1

omit [FloatOps F] in
/-- and back, each half's contents kept. -/
theorem of_holds (X : Fin 2 → FVec F S4096x512 .f32) :
    iprop(holds c M 0 (X 0) ∗ holds c M 1 (X 1))
      ⊢ (iprop(∃ f : Buf (Elt F) (M.view.loc (c : Thread nD τ)), ⌜∀ h, (half M h).view.read (Elt F) f = X h⌝
          ∗ M.view.loc (c : Thread nD τ) ↦[M.view.set]{fullShare} f) : sProp 𝕄) := by
  unfold holds owns
  iintro ⟨⟨%f, %hf, H0⟩, ⟨%g, %hg, H1⟩⟩
  ihave H := (show iprop((M.view.loc (c : Thread nD τ) ↦[(half M 0).view.set]{fullShare} f) ∗ M.view.loc (c : Thread nD τ) ↦[(half M 1).view.set]{fullShare} g)
      ⊢ (M.view.loc (c : Thread nD τ) ↦[(half M 0).view.set ∪ (half M 1).view.set]{fullShare} ((half M 1).view.set.piecewise g f) : sProp 𝕄)
      from pointsTo_join (half_disjoint M)) $$ [H0 H1]
  · isplitl [H0]; · iexact H0
    iexact H1
  iexists ((half M 1).view.set.piecewise g f)
  isplitr
  · ipureintro
    rw [Fin.forall_fin_two]
    constructor
    · rw [← hf]
      exact View.read_congr fun i hi => Finset.piecewise_eq_of_notMem _ _ _ (Finset.disjoint_left.mp (half_disjoint M) hi)
    · rw [← hg]
      exact View.read_congr fun i hi => Finset.piecewise_eq_of_mem _ _ _ hi
  · ihave H := (Entails.of_eq (congrArg (fun S => (M.view.loc (c : Thread nD τ) ↦[S]{fullShare} ((half M 1).view.set.piecewise g f) : sProp 𝕄)) (half_union M))) $$ H
    iexact H

omit [FloatOps F] in
/-- A half at any contents holds what it reads of them. -/
theorem spot_holds (h : Fin 2) : (spot c M h : sProp 𝕄) ⊢ iprop(∃ X, holds c M h X) := by
  unfold spot slot holds owns
  iintro ⟨%f, H⟩
  iexists _
  iexists f
  isplitr; · ipureintro; rfl
  iexact H

omit [FloatOps F] in
theorem of_spots : iprop(spot c M 0 ∗ spot c M 1)
      ⊢ (iprop(∃ f : Buf (Elt F) (M.view.loc (c : Thread nD τ)), M.view.loc (c : Thread nD τ) ↦[M.view.set]{fullShare} f) : sProp 𝕄) := by
  iintro ⟨H0, H1⟩
  ihave H0 := (spot_holds c M 0) $$ H0
  ihave H1 := (spot_holds c M 1) $$ H1
  icases H0 with ⟨%X0, H0⟩
  icases H1 with ⟨%X1, H1⟩
  ihave H := (of_holds c M ![X0, X1]) $$ [H0 H1]
  · isplitl [H0]; · iexact H0
    iexact H1
  icases H with ⟨%f, -, H⟩
  iexists f; iexact H

end Halves

/-! ## The argument's shares -/

omit [FloatOps F] in
theorem xAll_share (q : PosShare TreeShare) : (xAll m c q : sProp 𝕄) ⊣⊢ iprop(xAll m c q.left ∗ xAll m c q.right) :=
  pointsTo_share (PosShare.mem_left_op_right q)

omit [FloatOps F] in
/-- The whole argument: a share for each half's first hop, a share for each half's fetches. -/
theorem xAll_four : (xAll m c fullShare : sProp 𝕄)
    ⊣⊢ iprop((xAll m c (qs 0) ∗ xAll m c (qs 1)) ∗ xAll m c (qf 0) ∗ xAll m c (qf 1)) :=
  ⟨(xAll_share m c fullShare).1.trans (BIClass.sep_mono (xAll_share m c fullShare.left).1 (xAll_share m c fullShare.right).1),
   (BIClass.sep_mono (xAll_share m c fullShare.left).2 (xAll_share m c fullShare.right).2).trans (xAll_share m c fullShare).2⟩

end Cert.RingProof
-- ==== Proof.Deal.lean ====
/-
What the launch deals each device, and how the tokens and credits reach the device that uses them.
-/
module

public import proofs.«01_k».proof.Proof.Body
public import proofs.«01_k».proof.Proof.Halves

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MF F

variable (m : (ℓ : Loc nD τ sig) → Buf (Elt F) ℓ)

/-! ## The cells and tokens of the ring -/

theorem cell_injective : Function.Injective fun p : Dev nD × Cid => cell p.1 p.2 := by
  rintro ⟨c, k⟩ ⟨c', k'⟩ h
  have h1 : c = c' := congrArg (fun g : GSem nD τ sig => g.1.1) h
  have h2 : k = k' := Cid.sem_inj (congrArg Prod.snd h)
  rw [h1, h2]

theorem cell_eq_iff {a b : Dev nD} {k k' : Cid} : cell a k = cell b k' ↔ a = b ∧ k = k' := by
  refine ⟨fun h => ?_, fun h => by rw [h.1, h.2]⟩
  have := cell_injective (a₁ := (a, k)) (a₂ := (b, k')) h
  exact ⟨congrArg Prod.fst this, congrArg Prod.snd this⟩

/-- A token: of which cell, for which duty. -/
abbrev mint (x : (Cid × Fin 2) × Dev nD) : GSem nD τ sig × ℕ × Fin 2 := (cell x.2 x.1.1, 0, x.1.2)

theorem mint_injective : Function.Injective mint := by
  rintro ⟨⟨k, d⟩, c⟩ ⟨⟨k', d'⟩, c'⟩ h
  obtain ⟨h1, h2⟩ := cell_eq_iff.mp (congrArg Prod.fst h)
  have h3 : d = d' := congrArg (fun y : GSem nD τ sig × ℕ × Fin 2 => y.2.2) h
  subst h1; subst h2; subst h3; rfl

def ringCells : Finset (GSem nD τ sig) := Finset.univ.map ⟨_, cell_injective⟩
def ringToks : Finset (GSem nD τ sig × ℕ × Fin 2) := Finset.univ.map ⟨_, mint_injective⟩

/-- The launch's element: the cells' rounds and the hand-backs. -/
def u₀ : UU :=
  (initOf (Pipeline.cells cfgs cellOf_inj) (Pipeline.launchToks cfgs cellOf_inj),
    (initOf ringCells ringToks, (initSlots (Finset.univ : Finset Key) 1, 1)))

/-- The device whose cell a token of device `c` is for: it pays the barrier of both neighbours, the credit of the left
    one, what it sends itself, and what the right one receives. -/
def dest : Cid × Fin 2 → (Dev nD ≃ Dev nD)
  | (.bar, d) => if d = 1 then ring.symm else ring
  | (.credit, _) => ring.symm
  | (.snd _ _, _) => Equiv.refl _
  | (.rcv _ _, _) => ring

/-- The tokens device `c` pays with. -/
def purse (c : Dev nD) : sProp 𝕄 := bigSep Finset.univ fun p : Cid × Fin 2 => tok (dest p c) p.1 p.2

omit [FloatOps F] in
/-- The tokens of all cells are the tokens all devices pay with. -/
theorem purses : bigSep ringToks (fun x => (dutyTok ER x.1 x.2.1 x.2.2 : sProp 𝕄)) = bigSep Finset.univ fun c : Dev nD => purse c := by
  unfold ringToks purse
  rw [bigSep_map, bigSep_univ_equiv (Equiv.prodShear (Equiv.refl _) dest), bigSep_univ_equiv (Equiv.prodComm (Dev nD) (Cid × Fin 2)), bigSep_univ_prod]
  rfl

/-! ## What each device gets -/

/-- A device's standing at its hand-back and at the right neighbour's. -/
def turns (c : Dev nD) : sProp 𝕄 := bigSep Finset.univ fun h : Fin 2 => iprop(readerAt ES (c, h) 0 ∗ writeTok ES (nxt c, h) 1)

/-- From the launch's element: its cells' rounds, its place in them, its tokens and its turns. -/
def G (c : Dev nD) : sProp 𝕄 :=
  iprop((bigSep Finset.univ fun k : Cid => roundState ER (Rd m) (cell c k) 0)
    ∗ (bigSep Finset.univ fun k : Cid => reached ER (cell c k) 0)
    ∗ (∃ J : Key → ℕ, bigSep Finset.univ fun k : Key => slotInv ES (J k) k (spot k.1 r0M k.2))
    ∗ (bigSep Finset.univ fun k : Cid => before c k) ∗ purse c ∗ turns c)

omit [FloatOps F] in
theorem turns_all : iprop((bigSep Finset.univ fun k : Key => readerAt ES k 0)
      ∗ bigSep ((Finset.univ : Finset Key) ×ˢ Finset.range 1) fun x => writeTok ES x.1 (x.2 + 1))
    ⊢ (bigSep Finset.univ fun c : Dev nD => turns c : sProp 𝕄) := by
  have h1 : bigSep ((Finset.univ : Finset Key) ×ˢ Finset.range 1) (fun x => (writeTok ES x.1 (x.2 + 1) : sProp 𝕄))
      = bigSep Finset.univ fun k : Key => writeTok ES k 1 := by
    rw [Finset.range_one, Finset.product_singleton, bigSep_map]
    rfl
  rw [h1]
  unfold turns
  rw [bigSep_congr (s := Finset.univ) (fun (c : Dev nD) _ => bigSep_sep' Finset.univ (fun h : Fin 2 => (readerAt ES (c, h) 0 : sProp 𝕄)) (fun h => writeTok ES (nxt c, h) 1)),
    bigSep_sep', bigSep_univ_prod, bigSep_univ_prod, bigSep_univ_equiv ring (fun c : Dev nD => bigSep Finset.univ fun h : Fin 2 => (writeTok ES (c, h) 1 : sProp 𝕄))]
  exact BI.Entails.refl _

omit [FloatOps F] in
/-- Every other assertion may be handed to all devices when it can be copied. -/
theorem to_all (P : sProp 𝕄) [BI.Persistent P] : P ⊢ bigSep Finset.univ fun _ : Dev nD => P := BI.bigSep_of_persistent _ _

theorem fund_ring : BI.own (EX (initOf ringCells ringToks, (initSlots (Finset.univ : Finset Key) 1, (1 : Counters))))
    ⊢ (|={Set.univ}=> bigSep Finset.univ (G m) : sProp 𝕄) := by
  have hX (Φ : GSem nD τ sig → sProp 𝕄) : bigSep ringCells Φ = bigSep Finset.univ fun c : Dev nD => bigSep Finset.univ fun k : Cid => Φ (cell c k) := by
    unfold ringCells; rw [bigSep_map, bigSep_univ_prod]; rfl
  iintro Hu
  ihave Hu := (show (BI.own (EX (initOf ringCells ringToks, (initSlots (Finset.univ : Finset Key) 1, (1 : Counters)))) : sProp 𝕄)
      ⊢ iprop(BI.own (ER (initOf ringCells ringToks)) ∗ BI.own (EK (initSlots (Finset.univ : Finset Key) 1, (1 : Counters)))) from own_pair_emb EX _ _) $$ Hu
  icases Hu with ⟨HR, HK⟩
  ihave HK := (show (BI.own (EK (initSlots (Finset.univ : Finset Key) 1, (1 : Counters))) : sProp 𝕄)
      ⊢ iprop(BI.own (ES (initSlots (Finset.univ : Finset Key) 1)) ∗ BI.own (((Emb.inr : Emb Counters UK).trans EK) (1 : Counters))) from own_pair_emb EK _ _) $$ HK
  icases HK with ⟨HS, -⟩
  imod (Rounds.fund ER (Rd m) ringCells ringToks) $$ HR with ⟨Hst, Hr, Hat, Htok⟩
  imod (slots_init ES (Finset.univ : Finset Key) 1 (fun k => spot k.1 r0M k.2)) $$ HS with ⟨%J, -, #Hinv, Hrd, Hwr⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq purses) $$ Htok
  ihave Htu := turns_all $$ [Hrd Hwr]
  · isplitl [Hrd] <;> iassumption
  unfold G
  iapply (Entails.of_eq (by simp only [bigSep_sep']) : iprop((bigSep Finset.univ fun c : Dev nD => bigSep Finset.univ fun k : Cid => roundState ER (Rd m) (cell c k) 0)
      ∗ (bigSep Finset.univ fun c : Dev nD => bigSep Finset.univ fun k : Cid => reached ER (cell c k) 0)
      ∗ (bigSep Finset.univ fun _ : Dev nD => iprop(∃ J : Key → ℕ, bigSep Finset.univ fun k : Key => slotInv ES (J k) k (spot k.1 r0M k.2)))
      ∗ (bigSep Finset.univ fun c : Dev nD => bigSep Finset.univ fun k : Cid => before c k)
      ∗ (bigSep Finset.univ fun c : Dev nD => purse c) ∗ (bigSep Finset.univ fun c : Dev nD => turns c)) ⊢ (_ : sProp 𝕄))
  isplitl [Hst]; · iexact Hst
  isplitl [Hr]; · iexact Hr
  isplitr
  · iapply to_all
    iexists J; iexact Hinv
  isplitl [Hat]; · iexact Hat
  isplitl [Htok] <;> iassumption

/-! ## The semaphores -/

/-- The kernel's own semaphores: those of the local copies, then those of the cells. -/
abbrev osem : Fin 17 → SemLoc sig := fun n =>
  [.dma (copyS 0).sem, .dma (copyS 1).sem, .dma (outS 0).sem, .dma (outS 1).sem, Cid.credit.sem,
    (Cid.snd 0 0).sem, (Cid.snd 0 1).sem, (Cid.snd 1 0).sem, (Cid.snd 1 1).sem, (Cid.snd 2 0).sem, (Cid.snd 2 1).sem,
    (Cid.rcv 0 0).sem, (Cid.rcv 0 1).sem, (Cid.rcv 1 0).sem, (Cid.rcv 1 1).sem, (Cid.rcv 2 0).sem, (Cid.rcv 2 1).sem].get n

theorem ownSemFacts : Pipeline.OwnSemFacts cfg0.spec osem := by decide +kernel

/-- A device's semaphores of local copies, at rest. -/
def copies (c : Dev nD) : sProp 𝕄 := iprop(rest c (copyS 0) ∗ rest c (copyS 1) ∗ rest c (outS 0) ∗ rest c (outS 1))

omit [FloatOps F] in
/-- A family over the cells, cell by cell. -/
theorem bigSep_cid (Φ : Cid → sProp 𝕄) : bigSep Finset.univ Φ
    = iprop(Φ .bar ∗ Φ .credit ∗ Φ (.snd 0 0) ∗ Φ (.snd 0 1) ∗ Φ (.snd 1 0) ∗ Φ (.snd 1 1) ∗ Φ (.snd 2 0) ∗ Φ (.snd 2 1)
        ∗ Φ (.rcv 0 0) ∗ Φ (.rcv 0 1) ∗ Φ (.rcv 1 0) ∗ Φ (.rcv 1 1) ∗ Φ (.rcv 2 0) ∗ Φ (.rcv 2 1)) :=
  bigSep_univ_eq_bigSepL Cid.all (by decide) (by decide) Φ

omit [FloatOps F] in
/-- All semaphores of a device are those of its cells and of its local copies. -/
theorem sems_eq (c : Dev nD) :
    (iprop(Pipeline.ownSems0 (Ix := Fin 2) (Name := ℕ) (U := UU) (Lvl := ℕ) (Val := Elt F) (τ := τ) osem c ∗ unscopedSems0 c) : sProp 𝕄)
      ⊣⊢ iprop((bigSep Finset.univ fun k : Cid => semVal (cell c k) 0) ∗ copies c) := by
  have h1 : (Pipeline.ownSems0 (Ix := Fin 2) (Name := ℕ) (U := UU) (Lvl := ℕ) (Val := Elt F) (τ := τ) osem c : sProp 𝕄)
      = iprop(rest c (copyS 0) ∗ rest c (copyS 1) ∗ rest c (outS 0) ∗ rest c (outS 1) ∗ semVal (cell c .credit) 0
        ∗ semVal (cell c (.snd 0 0)) 0 ∗ semVal (cell c (.snd 0 1)) 0 ∗ semVal (cell c (.snd 1 0)) 0 ∗ semVal (cell c (.snd 1 1)) 0
        ∗ semVal (cell c (.snd 2 0)) 0 ∗ semVal (cell c (.snd 2 1)) 0
        ∗ semVal (cell c (.rcv 0 0)) 0 ∗ semVal (cell c (.rcv 0 1)) 0 ∗ semVal (cell c (.rcv 1 0)) 0 ∗ semVal (cell c (.rcv 1 1)) 0
        ∗ semVal (cell c (.rcv 2 0)) 0 ∗ semVal (cell c (.rcv 2 1)) 0) := by
    rw [Pipeline.ownSems0_eq_of_list c osem [0, 1, 2, 3, 4, 5, 6, 7, 8, 9, 10, 11, 12, 13, 14, 15, 16] (by decide) (by decide)]; rfl
  have h2 : (unscopedSems0 c : sProp 𝕄) = semVal (cell c .bar) 0 := by
    unfold unscopedSems0; rw [bigSep_eq_bigSepL_of_eq [SemLoc.reg barS] (by decide) (by decide)]; rfl
  rw [h1, h2, bigSep_cid]
  unfold copies
  constructor
  · iintro ⟨⟨A, B, C, D, H⟩, HB⟩
    isplitl [H HB]
    · isplitl [HB] <;> iassumption
    isplitl [A]; · iexact A
    isplitl [B]; · iexact B
    isplitl [C] <;> iassumption
  · iintro ⟨⟨HB, H⟩, A, B, C, D⟩
    isplitl [A B C D H]
    · isplitl [A]; · iexact A
      isplitl [B]; · iexact B
      isplitl [C]; · iexact C
      isplitl [D] <;> iassumption
    iexact HB

/-! ## The cells opened for business -/

/-- The invariants and marks, without the levels. -/
def books (K : Dev nD × Cid → ℕ) (J : Key → ℕ) : sProp 𝕄 :=
  iprop((bigSep Finset.univ fun p : Dev nD × Cid => cellInv ER (Rd m) (K p) (cell p.1 p.2))
    ∗ (bigSep Finset.univ fun p : Dev nD × Cid => reached ER (cell p.1 p.2) 0)
    ∗ bigSep Finset.univ fun k : Key => slotInv ES (J k) k (spot k.1 r0M k.2))

instance books_persistent (K : Dev nD × Cid → ℕ) (J : Key → ℕ) : BI.Persistent (books m K J) := by unfold books; infer_instance

/-- What is device `c`'s alone. -/
def own (c : Dev nD) : sProp 𝕄 := iprop((bigSep Finset.univ fun k : Cid => before c k) ∗ purse c ∗ turns c ∗ copies c)

def G' (c : Dev nD) : sProp 𝕄 := iprop(∃ K J, books m K J ∗ own c)

theorem core_alloc (c : Dev nD) :
    iprop(Pipeline.ownSems0 (Ix := Fin 2) (Name := ℕ) (U := UU) (Lvl := ℕ) (Val := Elt F) (τ := τ) osem c ∗ unscopedSems0 c ∗ G m c)
      ⊢ |={Set.univ}=> iprop((bigSep Finset.univ fun k : Cid => iprop(∃ κ : ℕ, cellInv ER (Rd m) κ (cell c k)))
          ∗ (bigSep Finset.univ fun k : Cid => reached ER (cell c k) 0)
          ∗ (∃ J : Key → ℕ, bigSep Finset.univ fun k : Key => slotInv ES (J k) k (spot k.1 r0M k.2)) ∗ own c) := by
  unfold G own
  iintro ⟨Ho, Hu, Hst, Hr, HJ, Hat, Htok, Htu⟩
  ihave Hs := (sems_eq (F := F) c).1 $$ [Ho Hu]
  · isplitl [Ho] <;> iassumption
  icases Hs with ⟨Hs, Hc⟩
  imod (show iprop((bigSep Finset.univ fun k : Cid => semVal (cell c k) 0) ∗ bigSep Finset.univ fun k : Cid => roundState ER (Rd m) (cell c k) 0)
      ⊢ (|={Set.univ}=> bigSep Finset.univ fun k : Cid => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hs Hst] with Hinv
  · isplitl [Hs] <;> iassumption
  imodintro
  isplitl [Hinv]; · iexact Hinv
  isplitl [Hr]; · iexact Hr
  isplitl [HJ]; · iexact HJ
  isplitl [Hat]; · iexact Hat
  isplitl [Htok]; · iexact Htok
  isplitl [Htu] <;> iassumption

theorem regroup :
    (bigSep Finset.univ fun c : Dev nD => iprop((bigSep Finset.univ fun k : Cid => iprop(∃ κ : ℕ, cellInv ER (Rd m) κ (cell c k)))
          ∗ (bigSep Finset.univ fun k : Cid => reached ER (cell c k) 0)
          ∗ (∃ J : Key → ℕ, bigSep Finset.univ fun k : Key => slotInv ES (J k) k (spot k.1 r0M k.2)) ∗ own c) : sProp 𝕄)
      ⊢ bigSep Finset.univ (G' m) := by
  rw [bigSep_sep', bigSep_sep', bigSep_sep', ← bigSep_univ_prod (fun p : Dev nD × Cid => iprop(∃ κ : ℕ, cellInv ER (Rd m) κ (cell p.1 p.2))),
    ← bigSep_univ_prod (fun p : Dev nD × Cid => (reached ER (cell p.1 p.2) 0 : sProp 𝕄))]
  iintro ⟨HI, #HR, HJ, Hown⟩
  ihave HK := (BI.bigSep_exists_pi Finset.univ (fun (p : Dev nD × Cid) (κ : ℕ) => (cellInv ER (Rd m) κ (cell p.1 p.2) : sProp 𝕄))) $$ HI
  icases HK with ⟨%K, #HI⟩
  ihave HJ := (show (bigSep Finset.univ fun _ : Dev nD => iprop(∃ J : Key → ℕ, bigSep Finset.univ fun k : Key => slotInv ES (J k) k (spot k.1 r0M k.2)))
      ⊢ (iprop(∃ J : Key → ℕ, bigSep Finset.univ fun k : Key => slotInv ES (J k) k (spot k.1 r0M k.2)) : sProp 𝕄)
      from bigSep_elim (Finset.mem_univ (0 : Fin 32))) $$ HJ
  icases HJ with ⟨%J, #HJ⟩
  iapply (bigSep_with_persistent (R := books m K J) (Φ := fun c : Dev nD => own c) fun c _ => by
    unfold G'
    iintro ⟨H, Ho⟩
    iexists K; iexists J
    isplitl [H] <;> iassumption)
  isplitr
  · unfold books
    isplitr; · iexact HI
    isplitr; · iexact HR
    iexact HJ
  iexact Hown

/-- The launch's step over all devices at once. -/
theorem glob : (bigSep Finset.univ fun c => iprop(Pipeline.ownSems0 (Ix := Fin 2) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- The units device `c`'s cell `k` is owed at launch, by index. -/
def need : Cid → Fin 2 → ℕ
  | .bar => ![2, 0]
  | .credit => ![1, 1]
  | .snd _ _ => ![0, 0]
  | .rcv _ _ => ![N, 0]

omit [FloatOps F] in
/-- One payment of every device, to the cells `k` of the devices `e` deals: each cell `k` gets it once. -/
theorem sum_tally (e : Dev nD ≃ Dev nD) (k : Cid) (i : Fin 2) (n : ℕ) (c : Dev nD) (k' : Cid) (i' : Fin 2) :
    ∑ d, tallyAt (cell (e d) k) i n (cell c k') i' = if k' = k ∧ i' = i then n else 0 := by
  by_cases h : k' = k ∧ i' = i
  · obtain ⟨rfl, rfl⟩ := h
    rw [if_pos ⟨rfl, rfl⟩, Finset.sum_congr rfl (g := fun d => if d = e.symm c then n else 0) fun d _ => by
      rw [tallyAt_apply]
      by_cases hd : d = e.symm c
      · subst hd; rw [Equiv.apply_symm_apply, if_pos ⟨rfl, rfl⟩, if_pos rfl]
      · rw [if_neg hd, if_neg fun hh => hd (by rw [(cell_eq_iff.mp hh.1).1, Equiv.symm_apply_apply])],
      Finset.sum_ite_eq' Finset.univ (e.symm c) fun _ => n, if_pos (Finset.mem_univ _)]
  · rw [if_neg h]
    refine Finset.sum_eq_zero fun d _ => ?_
    rw [tallyAt_apply, if_neg fun hh => h ⟨(cell_eq_iff.mp hh.1).2, hh.2⟩]

omit [FloatOps F] in
theorem sum_owing (c : Dev nD) (k : Cid) (i : Fin 2) : ∑ d, owing d 10 (cell c k) i = need k i := by
  have hp (k₀ : Cid) (i₀ : Fin 2) (n : ℕ) : ∑ d, tallyAt (cell (prv d) k₀) i₀ n (cell c k) i = if k = k₀ ∧ i = i₀ then n else 0 :=
    sum_tally ring.symm k₀ i₀ n c k i
  have hn (k₀ : Cid) (i₀ : Fin 2) (n : ℕ) : ∑ d, tallyAt (cell (nxt d) k₀) i₀ n (cell c k) i = if k = k₀ ∧ i = i₀ then n else 0 :=
    sum_tally ring k₀ i₀ n c k i
  simp only [owing, due, Pi.add_apply, Finsupp.add_apply, Pi.zero_apply, Finsupp.zero_apply, Finset.sum_add_distrib, Finset.sum_const_zero,
    Nat.reduceSub, hp, hn]
  cases k with
  | bar => fin_cases i <;> simp [need]
  | credit => fin_cases i <;> simp [need]
  | snd j h => fin_cases i <;> simp [need]
  | rcv j h => fin_cases j <;> fin_cases h <;> fin_cases i <;> simp [need]

/-- The credits device `c` starts with. -/
def credits (c : Dev nD) : sProp 𝕄 := bigSep Finset.univ fun k : Cid => iprop(crd c k 0 (need k 0) ∗ crd c k 1 (need k 1))

omit [FloatOps F] in
theorem creds (c : Dev nD) : (Pipeline.launchCred (fun d => owing d 10) c : sProp 𝕄) ⊢ credits c := by
  unfold Pipeline.launchCred credits
  refine (BI.bigSep_subset (t := Finset.univ.map ⟨_, Cid.sem_inj⟩) (Finset.subset_univ _)).trans ?_
  rw [bigSep_map]
  refine bigSep_mono fun k _ => ?_
  have h : tallyOn (cell c k) (launchCredit (Pipeline.owing fun d => owing d 10) 0 (cell c k))
      = (tallyAt (cell c k) 0 (need k 0) + tallyAt (cell c k) 1 (need k 1) : CellTallies nD τ sig (Fin 2)) := by
    unfold tallyAt
    rw [← tallyOn_add]
    refine congrArg _ (Finsupp.ext fun i => ?_)
    rw [Pipeline.launchCredit_owing, sum_owing, Finsupp.add_apply]
    fin_cases i <;> simp
  exact (Entails.of_eq (congrArg _ h)).trans (cred_add _ _).1

end Cert.RingProof
-- ==== Proof.Launch.lean ====
/-
The whole run: every device's body from what the launch deals it to its result, and the program of all 32 devices.
-/
module

public import proofs.«01_k».proof.Proof.Deal
public import Idealize.ShloMosaic.Lib.Pipeline.CollectiveSegs

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers

variable {F : FTy → Type} [FloatOps F]

local notation "𝕄" => MF F

variable (m : (ℓ : Loc nD τ sig) → Buf (Elt F) ℓ)

/-! ## Before and after the body -/

/-- The result buffer of device `c`, at the sums that went round the ring. -/
def answer (c : Dev nD) : sProp 𝕄 :=
  iprop(∃ f : Buf (Elt F) ((c : Thread nD τ).loc main_v1), ⌜∀ h, (half oM h).view.read (Elt F) f = sent m 3 c h⌝ ∗ ((c : Thread nD τ).loc main_v1) ↦{fullShare} f)

/-- What device `c` starts from, besides its scratch buffers; -/
def start (c : Dev nD) : sProp 𝕄 :=
  iprop((∃ K J, shared m K J ∗ own c) ∗ credits c ∗ xAll m c fullShare ∗ ((c : Thread nD τ).loc main_v1) ↦{fullShare} m ((c : Thread nD τ).loc main_v1))

def Φ₀ (c : Dev nD) : sProp 𝕄 := iprop(start m c ∗ Pipeline.scopedRest cfg0.spec c)
/-- what it ends with. -/
def Φ₁ (c : Dev nD) : sProp 𝕄 :=
  iprop((unscopedSems0 c ∗ xAll m c fullShare ∗ answer m c) ∗ Pipeline.ownSems0 osem c ∗ Pipeline.scopedRest cfg0.spec c)

def dats (_ : Fin 1) (c : Dev nD) : Pipeline.Dat τ (Elt F) (Fin 2) ℕ UU ℕ cfg0 c where
  A w := w.elim0
  after w _ := w.elim0
  Φ t := match t with
    | ⟨0, _⟩ => Φ₀ m c
    | ⟨_ + 1, _⟩ => Φ₁ m c
  q w := w.elim0
  owed t := match t with
    | ⟨0, _⟩ => owing c 10
    | ⟨_ + 1, _⟩ => 0

/-! ## The body -/

/-- A half's share of what is left when the body is done, its cells aside. -/
def kept (c : Dev nD) (h : Fin 2) : sProp 𝕄 :=
  iprop(rest c (outS h) ∗ holds c oM h (sent m 3 c h) ∗ spot c r0M h ∗ spot c r1M h ∗ idle m c h ∗ xPart m c (blkOf c 0) h (qs h))

/-- All cells are done with; -/
theorem all_after (c : Dev nD) : iprop(after c .bar ∗ after c .credit ∗ left m c 0 ∗ left m c 1)
    ⊢ (iprop((bigSep Finset.univ fun k : Cid => after c k) ∗ kept m c 0 ∗ kept m c 1) : sProp 𝕄) := by
  rw [bigSep_cid]
  unfold left kept
  iintro ⟨HB, HC, ⟨⟨A1, A2, A3, A4, A5, A6⟩, HA⟩, ⟨B1, B2, B3, B4, B5, B6⟩, HZ⟩
  isplitl [HB HC A1 A2 A3 A4 A5 A6 B1 B2 B3 B4 B5 B6]
  · isplitl [HB]; · iexact HB
    isplitl [HC]; · iexact HC
    isplitl [A1]; · iexact A1
    isplitl [B1]; · iexact B1
    isplitl [A2]; · iexact A2
    isplitl [B2]; · iexact B2
    isplitl [A3]; · iexact A3
    isplitl [B3]; · iexact B3
    isplitl [A4]; · iexact A4
    isplitl [B4]; · iexact B4
    isplitl [A5]; · iexact A5
    isplitl [B5]; · iexact B5
    isplitl [A6] <;> iassumption
  isplitl [HA] <;> iassumption

/-- so they close, their counters at zero. -/
theorem close_all (K : Dev nD × Cid → ℕ) (J : Key → ℕ) (c : Dev nD) :
    iprop(shared m K J ∗ bigSep Finset.univ fun k : Cid => after c k)
      ⊢ (|={Set.univ}=> bigSep Finset.univ fun k : Cid => semVal (cell c k) 0 : sProp 𝕄) :=
  (bigSep_with_persistent (R := shared m K J) fun k _ => show iprop(shared m K J ∗ after c k) ⊢ (|={Set.univ}=> semVal (cell c k) 0 : sProp 𝕄) from by
    iintro ⟨HS, Ha⟩
    ihave HI := (shared_inv m K J c k) $$ HS
    imod (Rounds.cell_close ER (Rd m) (Set.mem_univ (K (c, k))) (fun h => h) (R := 0 + 1) (duties_later m (cell c k))) $$ [HI Ha] with Hz
    · isplitl [HI] <;> iassumption
    imodintro; iexact Hz).trans (bigSep_fupd _ _)

omit [FloatOps F] in
/-- A device's tokens, one by one. -/
theorem purse_eq (c : Dev nD) : (purse c : sProp 𝕄)
    ⊢ iprop((tok (prv c) .bar 1 ∗ tok (nxt c) .bar 0) ∗ (tok (prv c) .credit 0 ∗ tok (prv c) .credit 1)
      ∗ (tok c (.snd 0 0) 0 ∗ tok c (.snd 0 1) 0 ∗ tok c (.snd 1 0) 0 ∗ tok c (.snd 1 1) 0 ∗ tok c (.snd 2 0) 0 ∗ tok c (.snd 2 1) 0)
      ∗ tok (nxt c) (.rcv 0 0) 0 ∗ tok (nxt c) (.rcv 0 1) 0 ∗ tok (nxt c) (.rcv 1 0) 0 ∗ tok (nxt c) (.rcv 1 1) 0
      ∗ tok (nxt c) (.rcv 2 0) 0 ∗ tok (nxt c) (.rcv 2 1) 0) := by
  unfold purse
  rw [bigSep_univ_prod, bigSep_cid]
  simp only [bigSep_two]
  iintro ⟨⟨HB0, HB1⟩, ⟨HC0, HC1⟩, ⟨S1, -⟩, ⟨S2, -⟩, ⟨S3, -⟩, ⟨S4, -⟩, ⟨S5, -⟩, ⟨S6, -⟩, ⟨R1, -⟩, ⟨R2, -⟩, ⟨R3, -⟩, ⟨R4, -⟩, ⟨R5, -⟩, ⟨R6, -⟩⟩
  isplitl [HB0 HB1]
  · isplitl [HB1]; · iexact HB1
    iexact HB0
  isplitl [HC0 HC1]
  · isplitl [HC0]; · iexact HC0
    iexact HC1
  isplitl [S1 S2 S3 S4 S5 S6]
  · isplitl [S1]; · iexact S1
    isplitl [S2]; · iexact S2
    isplitl [S3]; · iexact S3
    isplitl [S4]; · iexact S4
    isplitl [S5]; · iexact S5
    iexact S6
  isplitl [R1]; · iexact R1
  isplitl [R2]; · iexact R2
  isplitl [R3]; · iexact R3
  isplitl [R4]; · iexact R4
  isplitl [R5]; · iexact R5
  iexact R6

omit [FloatOps F] in
/-- A device's credits, one by one. -/
theorem credits_eq (c : Dev nD) : (credits c : sProp 𝕄)
    ⊢ iprop(crd c .bar 0 2 ∗ (crd c .credit 0 1 ∗ crd c .credit 1 1)
      ∗ crd c (.rcv 0 0) 0 N ∗ crd c (.rcv 0 1) 0 N ∗ crd c (.rcv 1 0) 0 N ∗ crd c (.rcv 1 1) 0 N ∗ crd c (.rcv 2 0) 0 N ∗ crd c (.rcv 2 1) 0 N) := by
  unfold credits
  rw [bigSep_cid]
  iintro ⟨⟨HB, -⟩, HC, -, -, -, -, -, -, ⟨R1, -⟩, ⟨R2, -⟩, ⟨R3, -⟩, ⟨R4, -⟩, ⟨R5, -⟩, ⟨R6, -⟩⟩
  isplitl [HB]; · iexact HB
  isplitl [HC]; · iexact HC
  isplitl [R1]; · iexact R1
  isplitl [R2]; · iexact R2
  isplitl [R3]; · iexact R3
  isplitl [R4]; · iexact R4
  isplitl [R5]; · iexact R5
  iexact R6

/-- The parts of the argument no transfer of the first hop reads. -/
def spare (c : Dev nD) : sProp 𝕄 := iprop(xRest m c (blkOf c 0) 0 (qs 0) ∗ xRest m c (blkOf c 0) 1 (qs 1))

omit [FloatOps F] in
/-- The argument, dealt to the halves. -/
theorem x_deal (c : Dev nD) : (xAll m c fullShare : sProp 𝕄)
    ⊣⊢ iprop((xPart m c (blkOf c 0) 0 (qs 0) ∗ xAll m c (qf 0)) ∗ (xPart m c (blkOf c 0) 1 (qs 1) ∗ xAll m c (qf 1)) ∗ spare m c) := by
  unfold spare
  constructor
  · iintro H
    ihave H := (xAll_four m c).1 $$ H
    icases H with ⟨⟨H0, H1⟩, F0, F1⟩
    ihave H0 := (xAll_split m c (blkOf c 0) 0 (qs 0)).1 $$ H0
    ihave H1 := (xAll_split m c (blkOf c 0) 1 (qs 1)).1 $$ H1
    icases H0 with ⟨P0, R0⟩
    icases H1 with ⟨P1, R1⟩
    isplitl [P0 F0]; · isplitl [P0] <;> iassumption
    isplitl [P1 F1]; · isplitl [P1] <;> iassumption
    isplitl [R0] <;> iassumption
  · iintro ⟨⟨P0, F0⟩, ⟨P1, F1⟩, R0, R1⟩
    iapply (xAll_four m c).2
    isplitl [P0 R0 P1 R1]
    · isplitl [P0 R0]
      · iapply (xAll_split m c (blkOf c 0) 0 (qs 0)).2
        isplitl [P0] <;> iassumption
      · iapply (xAll_split m c (blkOf c 0) 1 (qs 1)).2
        isplitl [P1] <;> iassumption
    isplitl [F0] <;> iassumption

omit [FloatOps F] in
/-- A whole buffer is its two halves; -/
theorem whole_spots (c : Dev nD) {sp : Space} (M : Memref sig .tc sp S4096x1024 .f32) (hM : M.view.set = Finset.univ)
    (f : Buf (Elt F) (M.view.loc (c : Thread nD τ))) :
    (M.view.loc (c : Thread nD τ) ↦{fullShare} f : sProp 𝕄) ⊢ iprop(spot c M 0 ∗ spot c M 1) :=
  (Entails.of_eq (by rw [hM])).trans (spots_of c M f)

omit [FloatOps F] in
/-- two halves are a whole buffer. -/
theorem spots_whole (c : Dev nD) {sp : Space} (M : Memref sig .tc sp S4096x1024 .f32) (hM : M.view.set = Finset.univ) :
    iprop(spot c M 0 ∗ spot c M 1)
      ⊢ (iprop(∃ f : Buf (Elt F) (M.view.loc (c : Thread nD τ)), M.view.loc (c : Thread nD τ) ↦{fullShare} f) : sProp 𝕄) :=
  (of_spots c M).trans (Entails.of_eq (by rw [hM]))

/-- The body's own share of what the launch deals, put where the stages want it. -/
theorem enter (c : Dev nD) : iprop(own c ∗ credits c ∗ xAll m c fullShare ∗ (((c : Thread nD τ).loc main_v1) ↦{fullShare} m ((c : Thread nD τ).loc main_v1))
      ∗ Pipeline.scopedRest cfg0.spec c)
    ⊢ (iprop((before c .bar ∗ crd c .bar 0 2 ∗ tok (prv c) .bar 1 ∗ tok (nxt c) .bar 0)
        ∗ (spot c r0M 0 ∗ spot c r0M 1 ∗ spot c r1M 0 ∗ spot c r1M 1) ∗ credited m c 0 ∗ brought m c 0 ∗ brought m c 1 ∗ spare m c) : sProp 𝕄) := by
  rw [scopedRest0_eq, credited_zero]
  unfold own turns copies brought res0 res1 res2 res3 res4 idle
  rw [bigSep_cid, bigSep_two]
  iintro ⟨⟨⟨AB, AC, AS1, AS2, AS3, AS4, AS5, AS6, AR1, AR2, AR3, AR4, AR5, AR6⟩, HP, ⟨⟨D0, W0⟩, D1, W1⟩, C0, C1, O0, O1⟩, HC, HX, HO, ⟨%f0, HS0⟩, ⟨%f1, HS1⟩, ⟨%f2, HS2⟩⟩
  ihave HP := (purse_eq c) $$ HP
  icases HP with ⟨TB, ⟨TC0, TC1⟩, ⟨S1, S2, S3, S4, S5, S6⟩, R1, R2, R3, R4, R5, R6⟩
  ihave HC := (credits_eq c) $$ HC
  icases HC with ⟨CB, CC, K1, K2, K3, K4, K5, K6⟩
  ihave HX := (x_deal m c).1 $$ HX
  icases HX with ⟨⟨P0, F0⟩, ⟨P1, F1⟩, HX⟩
  ihave HO := (whole_spots c oM (View.set_whole _) _) $$ HO
  icases HO with ⟨Q0, Q1⟩
  ihave HS0 := (whole_spots c r0M (View.set_whole _) f0) $$ HS0
  icases HS0 with ⟨U0, U1⟩
  ihave HS1 := (whole_spots c r1M (View.set_whole _) f1) $$ HS1
  icases HS1 with ⟨V0, V1⟩
  ihave HS2 := (whole_spots c tM (View.set_whole _) f2) $$ HS2
  icases HS2 with ⟨Y0, Y1⟩
  isplitl [AB CB TB]
  · isplitl [AB]; · iexact AB
    isplitl [CB]; · iexact CB
    iexact TB
  isplitl [U0 U1 V0 V1]
  · isplitl [U0]; · iexact U0
    isplitl [U1]; · iexact U1
    isplitl [V0] <;> iassumption
  isplitl [AC CC]
  · isplitl [AC] <;> iassumption
  isplitl [P0 F0 S1 R1 AR1 K1 S3 R3 AR3 K3 AS3 TC0 D0 W0 S5 R5 AR5 K5 Q0 O0 AS1 AS5 Y0 C0]
  · isplitl [P0 S1 R1]
    · isplitl [P0]; · iexact P0
      isplitl [S1] <;> iassumption
    isplitl [AR1 K1 S3 R3]
    · isplitl [AR1]; · iexact AR1
      isplitl [K1]; · iexact K1
      isplitl [S3] <;> iassumption
    isplitl [AR3 K3 AS3 TC0 D0 W0 S5 R5]
    · isplitl [AR3]; · iexact AR3
      isplitl [K3]; · iexact K3
      isplitl [AS3]; · iexact AS3
      isplitl [TC0]; · iexact TC0
      isplitl [D0]; · iexact D0
      isplitl [W0]; · iexact W0
      isplitl [S5] <;> iassumption
    isplitl [AR5 K5 Q0 O0]
    · isplitl [AR5]; · iexact AR5
      isplitl [K5]; · iexact K5
      isplitl [Q0] <;> iassumption
    isplitl [AS1 AS5]
    · isplitl [AS1] <;> iassumption
    isplitl [Y0]; · iexact Y0
    isplitl [C0] <;> iassumption
  isplitl [P1 F1 S2 R2 AR2 K2 S4 R4 AR4 K4 AS4 TC1 D1 W1 S6 R6 AR6 K6 Q1 O1 AS2 AS6 Y1 C1]
  · isplitl [P1 S2 R2]
    · isplitl [P1]; · iexact P1
      isplitl [S2] <;> iassumption
    isplitl [AR2 K2 S4 R4]
    · isplitl [AR2]; · iexact AR2
      isplitl [K2]; · iexact K2
      isplitl [S4] <;> iassumption
    isplitl [AR4 K4 AS4 TC1 D1 W1 S6 R6]
    · isplitl [AR4]; · iexact AR4
      isplitl [K4]; · iexact K4
      isplitl [AS4]; · iexact AS4
      isplitl [TC1]; · iexact TC1
      isplitl [D1]; · iexact D1
      isplitl [W1]; · iexact W1
      isplitl [S6] <;> iassumption
    isplitl [AR6 K6 Q1 O1]
    · isplitl [AR6]; · iexact AR6
      isplitl [K6]; · iexact K6
      isplitl [Q1] <;> iassumption
    isplitl [AS2 AS6]
    · isplitl [AS2] <;> iassumption
    isplitl [Y1]; · iexact Y1
    isplitl [C1] <;> iassumption
  iexact HX

/-- What the stages leave, its counters closed, is what the device ends with. -/
theorem leave (c : Dev nD) : iprop((bigSep Finset.univ fun k : Cid => semVal (cell c k) 0) ∗ kept m c 0 ∗ kept m c 1 ∗ spare m c) ⊢ Φ₁ m c := by
  unfold Φ₁ kept idle answer
  rw [scopedRest0_eq]
  iintro ⟨HZ, ⟨O0, X0, U0, V0, ⟨Y0, C0, F0⟩, P0⟩, ⟨O1, X1, U1, V1, ⟨Y1, C1, F1⟩, P1⟩, HX⟩
  ihave HS := (sems_eq (F := F) c).2 $$ [HZ O0 O1 C0 C1]
  · isplitl [HZ]; · iexact HZ
    unfold copies
    isplitl [C0]; · iexact C0
    isplitl [C1]; · iexact C1
    isplitl [O0] <;> iassumption
  icases HS with ⟨HS, HU⟩
  isplitl [HU P0 F0 P1 F1 HX X0 X1]
  · isplitl [HU]; · iexact HU
    isplitl [P0 F0 P1 F1 HX]
    · iapply (x_deal m c).2
      isplitl [P0 F0]; · isplitl [P0] <;> iassumption
      isplitl [P1 F1]; · isplitl [P1] <;> iassumption
      iexact HX
    ihave H := (of_holds c oM (sent m 3 c)) $$ [X0 X1]
    · isplitl [X0] <;> iassumption
    icases H with ⟨%f, %hf, H⟩
    iexists f
    isplitr; · ipureintro; exact hf
    ihave H := (Entails.of_eq (congrArg (fun S => (oM.view.loc (c : Thread nD τ) ↦[S]{fullShare} f : sProp 𝕄)) (View.set_whole main_v1))) $$ H
    iexact H
  isplitl [HS]; · iexact HS
  isplitl [U0 U1]
  · iapply (spots_whole c r0M (View.set_whole _))
    isplitl [U0] <;> iassumption
  isplitl [V0 V1]
  · iapply (spots_whole c r1M (View.set_whole _))
    isplitl [V0] <;> iassumption
  iapply (spots_whole c tM (View.set_whole _))
  isplitl [Y0] <;> iassumption

/-- The stages, from what the launch deals to what the device ends with. -/
theorem stages_all (c : Dev nD) : iprop(Φ₀ m c ∗ owed c 10)
    ⊢ run c (stages c (prv c) (nxt c) (nxt c) (nxt c) (nxt c) (nxt c) (prv c) (nxt c) (prv c) (nxt c)) (fun _ => iprop(Φ₁ m c ∗ owed c 0)) := by
  have hrun (K : Dev nD × Cid → ℕ) (J : Key → ℕ) := stages_run m K J c (fun _ => iprop(|={Set.univ}=> (Φ₁ m c ∗ owed c 0)))
  generalize stages (F := F) c (prv c) (nxt c) (nxt c) (nxt c) (nxt c) (nxt c) (prv c) (nxt c) (prv c) (nxt c) = p at hrun ⊢
  refine BIBase.Entails.trans ?_ (show run c p (fun _ => iprop(|={Set.univ}=> (Φ₁ m c ∗ owed c 0))) ⊢ run c p (fun _ => iprop(Φ₁ m c ∗ owed c 0))
    from wp_fupd frame (wpE (defs₀ (F := F)) 𝒱₀ (c : Thread nD τ) none) Set.univ p (fun _ => iprop(Φ₁ m c ∗ owed c 0)))
  unfold Φ₀ start
  iintro ⟨⟨⟨⟨%K, %J, #HS, Hown⟩, HC, HX, HO⟩, HR⟩, How⟩
  ihave H := (enter m c) $$ [Hown HC HX HO HR]
  · isplitl [Hown]; · iexact Hown
    isplitl [HC]; · iexact HC
    isplitl [HX]; · iexact HX
    isplitl [HO] <;> iassumption
  icases H with ⟨HB, Hs, Hc, H0, H1, Hx⟩
  iapply (hrun K J) $$ [How HB Hs Hc H0 H1]
  · isplitr; · iexact HS
    isplitl [How]; · iexact How
    isplitl [HB]; · iexact HB
    isplitl [Hs]; · iexact Hs
    isplitl [Hc]; · iexact Hc
    isplitl [H0] <;> iassumption
  iintro ⟨How, H⟩
  ihave H := (all_after m c) $$ H
  icases H with ⟨Ha, H0, H1⟩
  imod (close_all m K J c) $$ [Ha] with Hz
  · isplitr; · iexact HS
    iexact Ha
  imodintro
  isplitl [Hz H0 H1 Hx]
  · iapply (leave m c)
    isplitl [Hz]; · iexact Hz
    isplitl [H0]; · iexact H0
    isplitl [H1] <;> iassumption
  iexact How

/-- What the launch lets device `c` owe is what it has still to pay, within whatever it waits for. -/
theorem body_run (c : Dev nD) : iprop(Φ₀ m c ∗ owed c 10)
    ⊢ wp frame (wpE (defs₀ (F := F)) 𝒱₀ (c : Thread nD τ) none) Set.univ
      (cc0_body (Memref.whole main_arg0) (Memref.isWhole_whole _) (Memref.whole main_v1) (Memref.isWhole_whole _)
        (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 cc0_scratch7)
      (fun _ => iprop(Φ₁ m c ∗ owed c 0)) := by
  rw [body_eq_stages, wp_deviceId]
  show _ ⊢ run c (stages c ⟨k0_dev1 c, k0_dev1_lt c⟩ ⟨k0_dev2 c, k0_dev2_lt c⟩ ⟨k0_dev3 c, k0_dev3_lt c⟩
          ⟨k0_dev4 c, k0_dev4_lt c⟩ ⟨k0_dev5 c, k0_dev5_lt c⟩ ⟨k0_dev6 c, k0_dev6_lt c⟩ ⟨k0_dev7 c, k0_dev7_lt c⟩
          ⟨k0_dev8 c, k0_dev8_lt c⟩ ⟨k0_dev9 c, k0_dev9_lt c⟩ ⟨k0_dev10 c, k0_dev10_lt c⟩) _
  rw [dev1_eq c, dev2_eq c, dev3_eq c, dev4_eq c, dev5_eq c, dev6_eq c, dev7_eq c, dev8_eq c, dev9_eq c, dev10_eq c]
  exact stages_all m c

omit [FloatOps F] in
/-- The kernel has no windows. -/
theorem no_windows (Φ : Fin cfg0.W → sProp 𝕄) : bigSep Finset.univ Φ = iprop(emp) := by
  rw [show (Finset.univ : Finset (Fin cfg0.W)) = ∅ from rfl, BI.bigSep_empty]; rfl

/-- The body's obligation on device `c`. -/
theorem body_obligation (c : Dev nD) : Pipeline.BodyObligation (dats (F := F) m 0 c) (defs₀ (F := F)) 𝒱₀ 0 Set.univ := fun t => by
  rw [fin_N0 t, no_windows, no_windows]
  have hrun := body_run m c
  have hpre : iprop(Φ₀ m c ∗ (dats (F := F) m 0 c).owesAt 0 (0 : Fin 1).castSucc ∗ emp) ⊢ (iprop(Φ₀ m c ∗ owed c 10) : sProp 𝕄) := by
    unfold Pipeline.Dat.owesAt Pipeline.owesWithin
    iintro ⟨H, ⟨%W, -, HO⟩, -⟩
    isplitl [H]; · iexact H
    iexists W; iexact HO
  have hpost : (iprop(Φ₁ m c ∗ owed c 0) : sProp 𝕄) ⊢ iprop(Φ₁ m c ∗ (dats (F := F) m 0 c).owesAt 0 (0 : Fin 1).succ ∗ emp) := by
    unfold Pipeline.Dat.owesAt Pipeline.owesWithin
    iintro ⟨H, ⟨%W, HO⟩⟩
    isplitl [H]; · iexact H
    isplitl [HO]
    · iexists W
      isplitr; · ipureintro; exact fun _ _ => Or.inl trivial
      iexact HO
    iempintro
  exact BIBase.Entails.trans hpre (BIBase.Entails.trans hrun (wp_mono frame _ Set.univ fun _ => hpost))

/-! ## The run -/

theorem waits (c : Dev nD) : (levAts L lv : sProp 𝕄) ⊢ Pipeline.cellsWaits cfgs (dats m) 0 0 c :=
  Pipeline.cellsWaits_intro cfgs (dats m) 0 0 c fun w _ _ => w.elim0

theorem start_intro (ρ : Dev nD → PrngReg) (c : Dev nD) :
    iprop(Pipeline.unscopedRestP Pipeline.Prefetch.none cfg0.spec c (fun b => m ((c : Thread nD τ).loc b)) ∗ levAts L lv
        ∗ Pipeline.launchCred (fun d => owing d 10) c ∗ prngReg c (ρ c) ∗ G' m c)
      ⊢ (|={Set.univ}=> iprop(start m c ∗ emp) : sProp 𝕄) := by
  have hU : (Pipeline.unscopedRestP Pipeline.Prefetch.none cfg0.spec c (fun b => m ((c : Thread nD τ).loc b)) : sProp 𝕄)
      = iprop((((c : Thread nD τ).loc main_arg0) ↦{fullShare} m ((c : Thread nD τ).loc main_arg0))
        ∗ (((c : Thread nD τ).loc main_v1) ↦{fullShare} m ((c : Thread nD τ).loc main_v1))) := by
    rw [← unscopedRest0_eq c fun b => m ((c : Thread nD τ).loc b)]
    unfold Pipeline.unscopedRestP Pipeline.unscopedRest
    rw [show Finset.univ.image (Pipeline.Prefetch.none (sig := sig)).ref = ∅ from rfl, Finset.sdiff_empty]
  rw [hU]
  unfold start G' shared books xAll
  iintro ⟨⟨HX, HO⟩, HL, HC, -, ⟨%K, %J, ⟨H1, H2, H3⟩, Hown⟩⟩
  ihave HC := (creds c) $$ HC
  imodintro
  isplitl
  · isplitl [HL H1 H2 H3 Hown]
    · iexists K; iexists J
      isplitl [HL H1 H2 H3]
      · isplitl [H1]; · iexact H1
        isplitl [H2]; · iexact H2
        isplitl [H3] <;> iassumption
      iexact Hown
    isplitl [HC]; · iexact HC
    isplitl [HX] <;> iassumption
  · iempintro

/-- What every run ends with: each device's result at the sums that went round the ring, its argument as it was, every
    counter at zero. -/
def QM : PUnit × MemSt nD τ sig (Elt F) → Prop := fun r =>
  (∀ c : Dev nD, (∀ h, (half oM h).view.read (Elt F) (r.2.mem ((c : Thread nD τ).loc main_v1)) = sent m 3 c h)
    ∧ r.2.mem ((c : Thread nD τ).loc main_arg0) = m ((c : Thread nD τ).loc main_arg0)) ∧ r.2.sem = fun _ => 0

/-- The argument and the result of a finished device are read off what it ended with. -/
theorem read_end (c : Dev nD) (s' : Phys nD τ sig (Elt F)) :
    iprop((unscopedSems0 c ∗ xAll m c fullShare ∗ answer m c) ∗ emp ∗ SI s')
      ⊢ (|={Set.univ}=> iprop(⌜(∀ h, (half oM h).view.read (Elt F) (s'.mem.mem ((c : Thread nD τ).loc main_v1)) = sent m 3 c h)
          ∧ s'.mem.mem ((c : Thread nD τ).loc main_arg0) = m ((c : Thread nD τ).loc main_arg0)
          ∧ ∀ sm : SemLoc sig, sm.isScoped .tc = false → s'.mem.sem ((c.tc : Thread nD τ), sm) = 0⌝ ∗ SI s') : sProp 𝕄) := by
  unfold answer xAll
  iintro ⟨⟨HU, HX, ⟨%f, %hf, HO⟩⟩, -, HSI⟩
  icombine HSI HX gives %hx
  icombine HSI HO gives %ho
  imod (Pipeline.unscopedSems0_read (X := unscopedSems0 c) (c := c) fupd_intro s') $$ [HU HSI] with ⟨%hs, HSI⟩
  · isplitl [HU] <;> iassumption
  imodintro
  isplitr
  · ipureintro
    refine ⟨fun h => ?_, Buf.eq_of_forall_mem_univ hx, hs⟩
    rw [← hf h, Buf.eq_of_forall_mem_univ ho]
  iexact HSI

set_option maxRecDepth 8000 in
/-- On the mesh of 32 devices, for any float values, from any memory with all counters at zero: every fair run of the
    program ends, as `QM` says. -/
theorem run_main (ρ : Dev nD → PrngReg) : θ_run defs (onTc (τ := τ) (main (F := F))) (s₀ m ρ) (QM m) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0)
    (hshare := fun _ w => w.elim0)
    (hdistinct := winFacts0.arr_inj)
    (O₀ := fun d => owing d 10) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ w => w.elim0) (hpf := fun _ k => k.elim0)
    (X := start m) (Y := fun c => iprop(unscopedSems0 c ∗ xAll m c fullShare ∗ answer m c)) (Z := fun _ => iprop(emp))
    (hX := start_intro m ρ)
    (hin := fun c => by
      show _ ⊢ Φ₀ m c
      unfold Φ₀
      iintro ⟨Hs, -, Hr⟩
      isplitl [Hs] <;> iassumption)
    (hout := fun c => BI.Entails.refl (Φ₁ m c))
    (QY := fun c s => (∀ h, (half oM h).view.read (Elt F) (s.mem ((c : Thread nD τ).loc main_v1)) = sent m 3 c h)
      ∧ s.mem ((c : Thread nD τ).loc main_arg0) = m ((c : Thread nD τ).loc main_arg0)
      ∧ ∀ sm : SemLoc sig, sm.isScoped .tc = false → s.sem ((c.tc : Thread nD τ), sm) = 0)
    (hY := read_end m)
    (hQ := fun _ h hs => ⟨fun c => ⟨(h c).2.2.1, (h c).2.2.2.1⟩, sem_eq_zero hs fun c => (h c).2.2.2.2⟩)

end Cert.RingProof
-- ==== Proof.Value.lean ====
/-
What the kernel computes, index by index: each device's result is its column block of the sum of the four blocks along
its ring, and that is its block of the reference's sum over the leading axis.
-/
module

public import proofs.«01_k».proof.Proof.Launch
public import proofs.«01_k».proof.Proof.Gen.Kernel
public import proofs.«01_k».proof.Proof.Gen.ReferenceIdeal.Run
public import proofs.«01_k».proof.Defs
public import Idealize.ShloMosaic.Lib.Layout
public import Idealize.ShloMosaic.Lib.Quiescent
public import Idealize.ShloMosaic.Lib.IdealHost
public import Idealize.ShloMosaic.Lib.ValueLayout
public import Idealize.ShloMosaic.PureOps.Ideal.Laws

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Rounds Idealize.ShloMosaic.Release Idealize.ShloMosaic.Transfers

variable {F : FTy → Type} [FloatOps F]

variable (m : (ℓ : Loc nD τ sig) → Buf (Elt F) ℓ)

/-! ## The partial sums, at an index -/

set_option backward.proofsInPublic true in
/-- Where element `i` of column block `k` is in a device's argument. -/
def place (k : Fin 4) (i : S4096x1024.Idx) : S1x4096x4096.Idx :=
  ix3 (0 : Fin 1) (i 0 : Fin 4096) (⟨1024 * k.val + (i 1).val, by
    have h : (i 1).val < 1024 := (i 1).isLt
    have := k.isLt
    omega⟩ : Fin 4096)

/-- Half `h` of column block `k` lies where its elements' places are. -/
theorem xB_emb (k : Fin 4) (h : Fin 2) (y : S4096x512.Idx) : (xB k h).view.emb y = place k ((cols h).emb y) := by
  have e : (xB k h).view.emb y
      = (Rect.unit (s := S1x4096x4096) (offN k h) S1x4096x512.size (offN_inb k h)).emb
          (Shape.reshapeEquiv (s := S1x4096x512) (s' := S4096x512) squeezes_S1x4096x512_S4096x512.numel_eq y) := rfl
  have hy : y = ix2 (y 0 : Fin 4096) (y 1 : Fin 512) := by
    funext a; revert a; exact Fin.forall_fin_two.mpr ⟨rfl, rfl⟩
  have hr : Shape.reshapeEquiv (s := S1x4096x512) (s' := S4096x512) squeezes_S1x4096x512_S4096x512.numel_eq y
      = ix3 (⟨0, Nat.one_pos⟩ : Fin 1) (y 0 : Fin 4096) (y 1 : Fin 512) :=
    (congrArg _ hy).trans (reshapeEquiv_ix2_1ab (a := 4096) (b := 512) _ (y 0) (y 1))
  rw [e, hr]
  funext a
  refine Fin.ext ?_
  fin_cases a
  · rfl
  · show 0 + 1 * (y 0).val = 0 + 1 * (y 0).val
    rfl
  · show 1024 * k.val + 512 * h.val + 1 * (y 1).val = 1024 * k.val + (512 * h.val + 1 * (y 1).val)
    omega

/-- What device `c` holds, at an index of its column block, after hop `j`: its own element of the block it handles, on
    top of its left neighbour's from the hop before. -/
def part : ℕ → Dev nD → S4096x1024.Idx → F .f32
  | 0, c, i => m ((c : Thread nD τ).loc main_arg0) (place (blkOf c 0) i)
  | j + 1, c, i => FloatOps.addf (part j (prv c) i) (m ((c : Thread nD τ).loc main_arg0) (place (blkOf c (Fin.ofNat 4 (j + 1))) i))

theorem blk_apply (c : Dev nD) (k : Fin 4) (h : Fin 2) (y : S4096x512.Idx) :
    blk m c k h y = m ((c : Thread nD τ).loc main_arg0) (place k ((cols h).emb y)) :=
  (show blk m c k h y = m ((c : Thread nD τ).loc main_arg0) ((xB k h).view.emb y) from rfl).trans
    (congrArg (m ((c : Thread nD τ).loc main_arg0)) (xB_emb k h y))

/-- What is sent of half `h` is the partial sum at that half's columns. -/
theorem sent_apply (j : ℕ) (c : Dev nD) (h : Fin 2) (y : S4096x512.Idx) : sent m j c h y = part m j c ((cols h).emb y) := by
  induction j generalizing c with
  | zero => exact blk_apply m c _ h y
  | succ j ih =>
    show shapeCast S4096x512 (addf (sent m j (prv c) h) (blk m c (blkOf c (Fin.ofNat 4 (j + 1))) h)) _ y = _
    rw [shapeCast_self]
    show FloatOps.addf (sent m j (prv c) h y) (blk m c _ h y) = _
    rw [ih, blk_apply]
    rfl

/-- A buffer whose halves are the last partial sums is the last partial sum everywhere. -/
theorem result_eq (c : Dev nD) (f : Buf (Elt F) ((c : Thread nD τ).loc main_v1))
    (hf : ∀ h, (half oM h).view.read (Elt F) f = sent m 3 c h) : f = part m 3 c := by
  funext i
  have hi : i ∈ (Finset.univ : Finset (Fin 2)).biUnion (fun h => (cols h).set) := cols_cover ▸ Finset.mem_univ i
  obtain ⟨h, -, hi⟩ := Finset.mem_biUnion.mp hi
  have hs : i ∈ (half oM h).view.set := by
    rw [show (half oM h).view.set = (cols h).set.map oM.view.emb from View.set_slice _ _]
    exact Finset.mem_map.mpr ⟨i, hi, rfl⟩
  obtain ⟨y, rfl⟩ := View.exists_emb_of_mem_set _ hs
  exact (congrFun (hf h) y).trans (sent_apply m 3 c h y)

/-! ## Over the extended reals -/

/-- A device's position on its ring. -/
abbrev pos (c : Dev nD) : Fin 4 := ⟨c.val % 4, Nat.mod_lt _ (by decide)⟩

/-- The four devices whose arguments meet in a result are at the four positions of the ring. -/
theorem pos_prv (c : Dev nD) : pos (prv c) = pos c + 3 := by revert c; decide

/-- They all add to the same column block, the last device's own. -/
theorem blk_prv (c : Dev nD) : blkOf (prv (prv (prv c))) 0 = pos c ∧ blkOf (prv (prv c)) 1 = pos c ∧ blkOf (prv c) 2 = pos c ∧ blkOf c 3 = pos c := by
  revert c; decide

/-- A sum over the four positions, taken from any one of them leftwards. -/
theorem sum_ring (g : Fin 4 → EReal) (p : Fin 4) : g (p + 3 + 3 + 3) + g (p + 3 + 3) + g (p + 3) + g p = ∑ k, g k := by
  rw [Fin.sum_univ_four]
  fin_cases p
  · show g 1 + g 2 + g 3 + g 0 = _; abel
  · show g 2 + g 3 + g 0 + g 1 = _; abel
  · show g 3 + g 0 + g 1 + g 2 = _; abel
  · rfl

/-- The whole argument of the reference, and its contents at layer `k`, row `r` and column `q`. -/
abbrev Whole : Type := Cert.ReferenceIdeal.S4x4096x4096.Idx → EReal
abbrev at3 (x : Whole) (k : Fin 4) (r q : Fin 4096) : EReal := x (ix3 k r q)

/-- What the reference computes: the sum of the layers. -/
theorem reference_apply (x : Whole) (i : Cert.ReferenceIdeal.S4096x4096.Idx) :
    (Host.reduceAdd (F := Ideal) (φ := .f32) x (constant Cert.ReferenceIdeal.S_ .f32 0x00000000#32)
      Cert.ReferenceIdeal.Gen.reducesTo_S4x4096x4096_S4096x4096_d0 Cert.ReferenceIdeal.Gen.h_S_ : Cert.ReferenceIdeal.S4096x4096.Idx → EReal) i
      = ∑ k : Fin 4, at3 x k (i 0) (i 1) := by
  have hr : Cert.ReferenceIdeal.S4x4096x4096.Reduces [0] Cert.ReferenceIdeal.S4096x4096 := by decide
  rw [hostReduceAdd_apply, Ideal.hostReduceAdd_single _ hr,
    show (constant Cert.ReferenceIdeal.S_ .f32 0x00000000#32 : FVec Ideal Cert.ReferenceIdeal.S_ .f32) (Shape.Idx.first Cert.ReferenceIdeal.Gen.h_S_) = (0 : EReal)
      from Ideal.ofBits_zero_f32, zero_add]
  refine Finset.sum_congr rfl fun k _ => congrArg x (funext fun a => Fin.ext ?_)
  fin_cases a <;> rfl

/-- A device's argument is the layer of its position. -/
abbrev Cut (m : (ℓ : Loc nD τ sig) → Buf (Elt Ideal) ℓ) (x : Whole) : Prop :=
  ∀ c : Dev nD, m ((c : Thread nD τ).loc main_arg0)
    = Layout.blockN ⟨3, ![1, 4096, 4096]⟩ ⟨3, ![4, 4096, 4096]⟩ (Layout.meshBlock [2, 4, 4] ![[2], [], []] c) x

theorem lin_eq (c : Dev nD) : Layout.meshLin [2, 4, 4] c.val [2] = c.val % 4 := by
  revert c; decide

theorem cut_apply (m : (ℓ : Loc nD τ sig) → Buf (Elt Ideal) ℓ) (x : Whole) (hx : Cut m x) (c : Dev nD) (k : Fin 4) (i : S4096x1024.Idx) :
    (m ((c : Thread nD τ).loc main_arg0) (place k i) : EReal) = at3 x (pos c) (place k i 1) (place k i 2) := by
  rw [hx c]
  refine congrArg x (funext fun a => Fin.ext ?_)
  fin_cases a
  · show Layout.meshLin [2, 4, 4] c.val [2] * 1 + 0 = c.val % 4
    rw [lin_eq]; omega
  · show 0 * 4096 + (i 0).val = (i 0).val
    omega
  · show 0 * 4096 + (1024 * k.val + (i 1).val) = 1024 * k.val + (i 1).val
    omega

/-- The last partial sum of a device is its column block of the sum of the layers. -/
theorem part_last (m : (ℓ : Loc nD τ sig) → Buf (Elt Ideal) ℓ) (x : Whole) (hx : Cut m x) (c : Dev nD) (i : S4096x1024.Idx) :
    (part m 3 c i : EReal) = ∑ k : Fin 4, at3 x k (place (pos c) i 1) (place (pos c) i 2) := by
  obtain ⟨h0, h1, h2, h3⟩ := blk_prv c
  let elem : Dev nD → S1x4096x4096.Idx → EReal := fun d => m ((d : Thread nD τ).loc main_arg0)
  have hc : ∀ (d : Dev nD) (k : Fin 4), elem d (place k i) = at3 x (pos d) (place k i 1) (place k i 2) := fun d k => cut_apply m x hx d k i
  have e : (part m 3 c i : EReal)
      = elem (prv (prv (prv c))) (place (blkOf (prv (prv (prv c))) 0) i) + elem (prv (prv c)) (place (blkOf (prv (prv c)) 1) i)
        + elem (prv c) (place (blkOf (prv c) 2) i) + elem c (place (blkOf c 3) i) := rfl
  rw [e, h0, h1, h2, h3, hc, hc, hc, hc, pos_prv, pos_prv, pos_prv]
  exact sum_ring (fun k => at3 x k (place (pos c) i 1) (place (pos c) i 2)) (pos c)

/-- So it is the device's block of what the reference computes. -/
theorem part_block (m : (ℓ : Loc nD τ sig) → Buf (Elt Ideal) ℓ) (x : Whole) (hx : Cut m x) (c : Dev nD) :
    part m 3 c = Layout.blockN ⟨2, ![4096, 1024]⟩ ⟨2, ![4096, 4096]⟩ (Layout.meshBlock [2, 4, 4] ![[], [2]] c)
      (Host.reduceAdd (F := Ideal) (φ := .f32) x (constant Cert.ReferenceIdeal.S_ .f32 0x00000000#32)
        Cert.ReferenceIdeal.Gen.reducesTo_S4x4096x4096_S4096x4096_d0 Cert.ReferenceIdeal.Gen.h_S_ : Cert.ReferenceIdeal.S4096x4096.Idx → EReal) := by
  funext i
  rw [Layout.blockN_apply, reference_apply]
  refine (part_last m x hx c i).trans (Finset.sum_congr rfl fun k _ => congrArg x (funext fun a => Fin.ext ?_))
  fin_cases a
  · rfl
  · show (i 0).val = 0 * 4096 + (i 0).val
    omega
  · show 1024 * (c.val % 4) + (i 1).val = Layout.meshLin [2, 4, 4] c.val [2] * 1024 + (i 1).val
    rw [lin_eq]; omega

/-! ## The claims -/

/-- The kernel over machine floats runs, leaves its argument and leaves every counter at zero; -/
theorem frame_kernel : Cert.quiescent_Kernel := fun m ρ _ =>
  (θ_run Cert.KernelIdeal.defs _ _).mono (fun _ h => ⟨fun c => (h.1 c).2, h.2⟩) (run_main (F := Bits) m ρ)

/-- over the extended reals likewise, -/
theorem frame_ideal : Cert.quiescent_KernelIdeal := fun m ρ _ =>
  (θ_run Cert.KernelIdeal.defs _ _).mono (fun _ h => ⟨fun c => (h.1 c).2, h.2⟩) (run_main (F := Ideal) m ρ)

/-- and so does the reference, which has no semaphores. -/
theorem frame_reference : Cert.quiescent_ReferenceIdeal := fun m ρ _ =>
  (θ_run Cert.ReferenceIdeal.defs _ _).mono
    (fun _ h => ⟨fun c => (h c).2, sem_eq_zero_of_no_sems rfl _⟩) (Cert.ReferenceIdeal.Value.run (F := Ideal) m ρ)

/-- Each device's result is its column block of the reference's. -/
theorem same : Cert.algebraic_KernelIdeal_ReferenceIdeal := fun m ρ m' ρ' _ hx =>
  ⟨_, (θ_run Cert.KernelIdeal.defs _ _).mono
      (fun _ h c => ⟨(result_eq m c _ (h.1 c).1).trans (part_block m _ hx c), (h.1 c).2⟩) (run_main (F := Ideal) m ρ),
    (θ_run Cert.ReferenceIdeal.defs _ _).mono (fun _ h => h 0) (Cert.ReferenceIdeal.Value.run (F := Ideal) m' ρ')⟩

end Cert.RingProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The two programs and the reference run and leave the machine quiet, and each device's result is its column block of
    the reference's sum. -/
theorem claim : Cert.Claim := ⟨Cert.Kernel.Gen.facts, Cert.KernelIdeal.Gen.facts, Cert.ReferenceIdeal.Gen.facts,
  Cert.RingProof.frame_kernel, Cert.RingProof.frame_ideal, Cert.RingProof.frame_reference, trivial, Cert.RingProof.same⟩

end Cert.Proof

end
